-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_domain [hPre_in_domain : Cert.Pre_in_domain.Facts] (m : (ℓ : Loc Cert.KernelIdeal.nD Cert.KernelIdeal.τ Cert.KernelIdeal.sig) → Buf (Elt Ideal) ℓ) : Prop :=
  ∀ c : Dev Cert.KernelIdeal.nD,
    (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_domain [hPre_in_domain : Cert.Pre_in_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_in_domain [hKernelIdeal : Cert.KernelIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_domain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_domain [hReferenceIdeal : Cert.ReferenceIdeal.Facts] [hPre_in_domain : Cert.Pre_in_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "big" .f32 0x7F61B1E6#32 ⊤

def algebraic_KernelIdeal_ReferenceIdeal_pre_in_domain [hKernelIdeal : Cert.KernelIdeal.Facts] [hReferenceIdeal : Cert.ReferenceIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_domain : Cert.Pre_in_domain.Facts),
    quiescent_Kernel (hKernel := hKernel)
    ∧ quiescent_KernelIdeal (hKernelIdeal := hKernelIdeal)
    ∧ quiescent_KernelIdeal_pre_in_domain (hKernelIdeal := hKernelIdeal) (hPre_in_domain := hPre_in_domain)
    ∧ quiescent_ReferenceIdeal (hReferenceIdeal := hReferenceIdeal)
    ∧ quiescent_ReferenceIdeal_pre_in_domain (hReferenceIdeal := hReferenceIdeal) (hPre_in_domain := hPre_in_domain)
    ∧ preserves_Kernel_KernelIdeal
    ∧ algebraic_KernelIdeal_ReferenceIdeal_pre_in_domain (hKernelIdeal := hKernelIdeal) (hReferenceIdeal := hReferenceIdeal) (hPre_in_domain := hPre_in_domain)
-- ==== Pre_in_domain.lean ====
abbrev S65536x17 : Shape := ⟨2, ![65536, 17]⟩
abbrev S8x64 : Shape := ⟨2, ![8, 64]⟩
abbrev S64 : Shape := ⟨1, ![64]⟩
abbrev S64x64 : Shape := ⟨2, ![64, 64]⟩
abbrev S64x512 : Shape := ⟨2, ![64, 512]⟩
abbrev S512 : Shape := ⟨1, ![512]⟩
abbrev S65536x8 : Shape := ⟨2, ![65536, 8]⟩
abbrev S_ : Shape := ⟨0, ![]⟩

class Facts : Prop where
  slices_S65536x17_S65536x8_0_0 : S65536x17.Slices ![0, 0] S65536x8
  bcast_S_S65536x8 : S_.BroadcastsInDim S65536x8 (![] : Fin 0 → Fin S65536x8.rank)
  reducesTo_S65536x8_S_d0_1 : S65536x8.ReducesTo [0, 1] S_
  h_S_ : 0 < S_.numel
  slices_S65536x17_S65536x8_0_8 : S65536x17.Slices ![0, 8] S65536x8
  bcast_S_S8x64 : S_.BroadcastsInDim S8x64 (![] : Fin 0 → Fin S8x64.rank)
  reducesTo_S8x64_S_d0_1 : S8x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x512 : S_.BroadcastsInDim S64x512 (![] : Fin 0 → Fin S64x512.rank)
  reducesTo_S64x512_S_d0_1 : S64x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg6 : FVec F S512 .f32) (main_v29 : IVec S_ 1) (main_v33 : IVec S_ 1) : IVec S_ 1 :=
  let main_v34 : IVec S_ 1 := andi main_v29 main_v33
  let main_v35 : FVec F S512 .f32 := Host.absf main_arg6
  let main_cst_12 : FVec F S_ .f32 := constant S_ .f32 0x7F800000#32
  let main_v36 : FVec F S512 .f32 := broadcastInDim S512 ![] bcast_S_S512 main_cst_12
  let main_v37 : IVec S512 1 := cmpf .olt main_v35 main_v36
  let main_c_13 : IVec S_ 1 := constantI S_ 1 1#1
  let main_v38 : IVec S_ 1 := (fun x v => Host.reduce IntOp.andi x v reducesTo_S512_S_d0 h_S_) main_v37 main_c_13
  let main_v39 : IVec S_ 1 := andi main_v34 main_v38
  main_v39

def fn_part1 {F : FTy → Type} [FloatOps F] (main_arg3 : FVec F S64x64 .f32) (main_arg4 : FVec F S64 .f32) (main_arg5 : FVec F S64x512 .f32) (main_arg6 : FVec F S512 .f32) (main_v14 : IVec S_ 1) (main_v15 : FVec F S64 .f32) (main_v16 : FVec F S64 .f32) : IVec S_ 1 :=
  let main_v17 : IVec S64 1 := cmpf .olt main_v15 main_v16
  let main_c_5 : IVec S_ 1 := constantI S_ 1 1#1
  let main_v18 : IVec S_ 1 := (fun x v => Host.reduce IntOp.andi x v reducesTo_S64_S_d0 h_S_) main_v17 main_c_5
  let main_v19 : IVec S_ 1 := andi main_v14 main_v18
  let main_v20 : FVec F S64x64 .f32 := Host.absf main_arg3
  let main_cst_6 : FVec F S_ .f32 := constant S_ .f32 0x7F800000#32
  let main_v21 : FVec F S64x64 .f32 := broadcastInDim S64x64 ![] bcast_S_S64x64 main_cst_6
  let main_v22 : IVec S64x64 1 := cmpf .olt main_v20 main_v21
  let main_c_7 : IVec S_ 1 := constantI S_ 1 1#1
  let main_v23 : IVec S_ 1 := (fun x v => Host.reduce IntOp.andi x v reducesTo_S64x64_S_d0_1 h_S_) main_v22 main_c_7
  let main_v24 : IVec S_ 1 := andi main_v19 main_v23
  let main_v25 : FVec F S64 .f32 := Host.absf main_arg4
  let main_cst_8 : FVec F S_ .f32 := constant S_ .f32 0x7F800000#32
  let main_v26 : FVec F S64 .f32 := broadcastInDim S64 ![] bcast_S_S64 main_cst_8
  let main_v27 : IVec S64 1 := cmpf .olt main_v25 main_v26
  let main_c_9 : IVec S_ 1 := constantI S_ 1 1#1
  let main_v28 : IVec S_ 1 := (fun x v => Host.reduce IntOp.andi x v reducesTo_S64_S_d0 h_S_) main_v27 main_c_9
  let main_v29 : IVec S_ 1 := andi main_v24 main_v28
  let main_v30 : FVec F S64x512 .f32 := Host.absf main_arg5
  let main_cst_10 : FVec F S_ .f32 := constant S_ .f32 0x7F800000#32
  let main_v31 : FVec F S64x512 .f32 := broadcastInDim S64x512 ![] bcast_S_S64x512 main_cst_10
  let main_v32 : IVec S64x512 1 := cmpf .olt main_v30 main_v31
  let main_c_11 : IVec S_ 1 := constantI S_ 1 1#1
  let main_v33 : IVec S_ 1 := (fun x v => Host.reduce IntOp.andi x v reducesTo_S64x512_S_d0_1 h_S_) main_v32 main_c_11
  fn_part2 (F := F) main_arg6 main_v29 main_v33

def fn {F : FTy → Type} [FloatOps F] (main_arg0 : FVec F S65536x17 .f32) (main_arg1 : FVec F S8x64 .f32) (main_arg2 : FVec F S64 .f32) (main_arg3 : FVec F S64x64 .f32) (main_arg4 : FVec F S64 .f32) (main_arg5 : FVec F S64x512 .f32) (main_arg6 : FVec F S512 .f32) : IVec S_ 1 :=
  let main_v0 : FVec F S65536x8 .f32 := (extractStridedSlice S65536x8 ![0, 0] · slices_S65536x17_S65536x8_0_0) main_arg0
  let main_v1 : FVec F S65536x8 .f32 := Host.absf main_v0
  let main_cst : FVec F S_ .f32 := constant S_ .f32 0x7F800000#32
  let main_v2 : FVec F S65536x8 .f32 := broadcastInDim S65536x8 ![] bcast_S_S65536x8 main_cst
  let main_v3 : IVec S65536x8 1 := cmpf .olt main_v1 main_v2
  let main_c : IVec S_ 1 := constantI S_ 1 1#1
  let main_v4 : IVec S_ 1 := (fun x v => Host.reduce IntOp.andi x v reducesTo_S65536x8_S_d0_1 h_S_) main_v3 main_c
  let main_v5 : FVec F S65536x8 .f32 := (extractStridedSlice S65536x8 ![0, 8] · slices_S65536x17_S65536x8_0_8) main_arg0
  let main_cst_0 : FVec F S_ .f32 := constant S_ .f32 0x3F800000#32
  let main_v6 : FVec F S65536x8 .f32 := broadcastInDim S65536x8 ![] bcast_S_S65536x8 main_cst_0
  let main_v7 : IVec S65536x8 1 := cmpf .ole main_v5 main_v6
  let main_c_1 : IVec S_ 1 := constantI S_ 1 1#1
  let main_v8 : IVec S_ 1 := (fun x v => Host.reduce IntOp.andi x v reducesTo_S65536x8_S_d0_1 h_S_) main_v7 main_c_1
  let main_v9 : IVec S_ 1 := andi main_v4 main_v8
  let main_v10 : FVec F S8x64 .f32 := Host.absf main_arg1
  let main_cst_2 : FVec F S_ .f32 := constant S_ .f32 0x7F800000#32
  let main_v11 : FVec F S8x64 .f32 := broadcastInDim S8x64 ![] bcast_S_S8x64 main_cst_2
  let main_v12 : IVec S8x64 1 := cmpf .olt main_v10 main_v11
  let main_c_3 : IVec S_ 1 := constantI S_ 1 1#1
  let main_v13 : IVec S_ 1 := (fun x v => Host.reduce IntOp.andi x v reducesTo_S8x64_S_d0_1 h_S_) main_v12 main_c_3
  let main_v14 : IVec S_ 1 := andi main_v9 main_v13
  let main_v15 : FVec F S64 .f32 := Host.absf main_arg2
  let main_cst_4 : FVec F S_ .f32 := constant S_ .f32 0x7F800000#32
  let main_v16 : FVec F S64 .f32 := broadcastInDim S64 ![] bcast_S_S64 main_cst_4
  fn_part1 (F := F) main_arg3 main_arg4 main_arg5 main_arg6 main_v14 main_v15 main_v16
-- ==== Kernel.lean ====
abbrev S65536x17 : Shape := ⟨2, ![65536, 17]⟩
abbrev S8x64 : Shape := ⟨2, ![8, 64]⟩
abbrev S64 : Shape := ⟨1, ![64]⟩
abbrev S64x64 : Shape := ⟨2, ![64, 64]⟩
abbrev S64x512 : Shape := ⟨2, ![64, 512]⟩
abbrev S512 : Shape := ⟨1, ![512]⟩
abbrev S64x1 : Shape := ⟨2, ![64, 1]⟩
abbrev S1x64 : Shape := ⟨2, ![1, 64]⟩
abbrev S1x64x64 : Shape := ⟨3, ![1, 64, 64]⟩
abbrev S8x1x64 : Shape := ⟨3, ![8, 1, 64]⟩
abbrev S8x64x64 : Shape := ⟨3, ![8, 64, 64]⟩
abbrev S512x64 : Shape := ⟨2, ![512, 64]⟩
abbrev S17x65536 : Shape := ⟨2, ![17, 65536]⟩
abbrev S64x8 : Shape := ⟨2, ![64, 8]⟩
abbrev S9x65536 : Shape := ⟨2, ![9, 65536]⟩
abbrev S17x8192 : Shape := ⟨2, ![17, 8192]⟩
abbrev S9x8192 : Shape := ⟨2, ![9, 8192]⟩
abbrev S8x8192 : Shape := ⟨2, ![8, 8192]⟩
abbrev S64x8192 : Shape := ⟨2, ![64, 8192]⟩
abbrev S1x8192 : Shape := ⟨2, ![1, 8192]⟩
abbrev S31x8192 : Shape := ⟨2, ![31, 8192]⟩
abbrev S15x8192 : Shape := ⟨2, ![15, 8192]⟩
abbrev S8192 : Shape := ⟨1, ![8192]⟩
abbrev S65536x8 : Shape := ⟨2, ![65536, 8]⟩
abbrev S65536x9 : Shape := ⟨2, ![65536, 9]⟩

abbrev nBuf : Space → Nat
  | .hbm => 32
  | .vmem => 10
  | .smem => 0
  | _ => 0

abbrev bufTy : (tb : Table) → Fin (tcTables nBuf tb) → BufTy
  | .hbm, ⟨0, _⟩ => ⟨S65536x17, .f32⟩
  | .hbm, ⟨1, _⟩ => ⟨S8x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x512, .f32⟩
  | .hbm, ⟨6, _⟩ => ⟨S512, .f32⟩
  | .hbm, ⟨7, _⟩ => ⟨S64, .i32⟩
  | .hbm, ⟨8, _⟩ => ⟨S64x1, .i32⟩
  | .hbm, ⟨9, _⟩ => ⟨S64, .i32⟩
  | .hbm, ⟨10, _⟩ => ⟨S1x64, .i32⟩
  | .hbm, ⟨11, _⟩ => ⟨S64x64, .i32⟩
  | .hbm, ⟨12, _⟩ => ⟨S64x64, .i32⟩
  | .hbm, ⟨13, _⟩ => ⟨S64x64, .i1⟩
  | .hbm, ⟨14, _⟩ => ⟨S64x64, .f32⟩
  | .hbm, ⟨15, _⟩ => ⟨S1x64x64, .f32⟩
  | .hbm, ⟨16, _⟩ => ⟨S512, .f32⟩
  | .hbm, ⟨17, _⟩ => ⟨S8x1x64, .f32⟩
  | .hbm, ⟨18, _⟩ => ⟨S8x64x64, .f32⟩
  | .hbm, ⟨19, _⟩ => ⟨S8x64x64, .f32⟩
  | .hbm, ⟨20, _⟩ => ⟨S8x64x64, .f32⟩
  | .hbm, ⟨21, _⟩ => ⟨S512x64, .f32⟩
  | .hbm, ⟨22, _⟩ => ⟨S17x65536, .f32⟩
  | .hbm, ⟨23, _⟩ => ⟨S64x8, .f32⟩
  | .hbm, ⟨24, _⟩ => ⟨S64x1, .f32⟩
  | .hbm, ⟨25, _⟩ => ⟨S64x64, .f32⟩
  | .hbm, ⟨26, _⟩ => ⟨S64x1, .f32⟩
  | .hbm, ⟨27, _⟩ => ⟨S512x64, .f32⟩
  | .hbm, ⟨28, _⟩ => ⟨S9x65536, .f32⟩
  | .hbm, ⟨29, _⟩ => ⟨S65536x8, .f32⟩
  | .hbm, ⟨30, _⟩ => ⟨S65536x9, .f32⟩
  | .hbm, ⟨31, _⟩ => ⟨S65536x17, .f32⟩
  | .local _ .vmem, ⟨0, _⟩ => ⟨S17x8192, .f32⟩
  | .local _ .vmem, ⟨1, _⟩ => ⟨S17x8192, .f32⟩
  | .local _ .vmem, ⟨2, _⟩ => ⟨S64x8, .f32⟩
  | .local _ .vmem, ⟨3, _⟩ => ⟨S64x1, .f32⟩
  | .local _ .vmem, ⟨4, _⟩ => ⟨S64x64, .f32⟩
  | .local _ .vmem, ⟨5, _⟩ => ⟨S64x1, .f32⟩
  | .local _ .vmem, ⟨6, _⟩ => ⟨S512x64, .f32⟩
  | .local _ .vmem, ⟨7, _⟩ => ⟨S512x64, .f32⟩
  | .local _ .vmem, ⟨8, _⟩ => ⟨S9x8192, .f32⟩
  | .local _ .vmem, ⟨9, _⟩ => ⟨S9x8192, .f32⟩
  | _, _ => ⟨S65536x17, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S17x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S9x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "big" => some ⊤
  | "log2e" => some (((Real.log 2)⁻¹ : ℝ) : EReal)
  | _ => none
-- ==== ReferenceIdeal.lean ====
abbrev S65536x17 : Shape := ⟨2, ![65536, 17]⟩
abbrev S8x64 : Shape := ⟨2, ![8, 64]⟩
abbrev S64 : Shape := ⟨1, ![64]⟩
abbrev S64x64 : Shape := ⟨2, ![64, 64]⟩
abbrev S64x512 : Shape := ⟨2, ![64, 512]⟩
abbrev S512 : Shape := ⟨1, ![512]⟩
abbrev S65536x8 : Shape := ⟨2, ![65536, 8]⟩
abbrev S65536x1 : Shape := ⟨2, ![65536, 1]⟩
abbrev S65536 : Shape := ⟨1, ![65536]⟩
abbrev S65536x64 : Shape := ⟨2, ![65536, 64]⟩
abbrev S1x64 : Shape := ⟨2, ![1, 64]⟩
abbrev S_ : Shape := ⟨0, ![]⟩
abbrev S65536x512 : Shape := ⟨2, ![65536, 512]⟩
abbrev S1x512 : Shape := ⟨2, ![1, 512]⟩
abbrev S65536x8x64 : Shape := ⟨3, ![65536, 8, 64]⟩
abbrev S65536x8x1 : Shape := ⟨3, ![65536, 8, 1]⟩
abbrev S65536x8x65 : Shape := ⟨3, ![65536, 8, 65]⟩
abbrev S65536x8x1x1 : Shape := ⟨4, ![65536, 8, 1, 1]⟩
abbrev S1 : Shape := ⟨1, ![1]⟩
abbrev S1x1x1x1 : Shape := ⟨4, ![1, 1, 1, 1]⟩

abbrev nBuf : Space → Nat
  | .hbm => 129
  | .vmem => 0
  | .smem => 0
  | _ => 0

abbrev hbmTy0_0 (i : Nat) : BufTy := match i % 128 with
  | 0 => ⟨S65536x17, .f32⟩
  | 1 => ⟨S8x64, .f32⟩
  | 2 => ⟨S64, .f32⟩
  | 3 => ⟨S64x64, .f32⟩
  | 4 => ⟨S64, .f32⟩
  | 5 => ⟨S64x512, .f32⟩
  | 6 => ⟨S512, .f32⟩
  | 7 => ⟨S65536x8, .f32⟩
  | 8 => ⟨S65536x8, .f32⟩
  | 9 => ⟨S65536x1, .f32⟩
  | 10 => ⟨S65536, .f32⟩
  | 11 => ⟨S65536x1, .f32⟩
  | 12 => ⟨S65536x64, .f32⟩
  | 13 => ⟨S1x64, .f32⟩
  | 14 => ⟨S65536x64, .f32⟩
  | 15 => ⟨S65536x64, .f32⟩
  | 16 => ⟨S_, .f32⟩
  | 17 => ⟨S65536x64, .f32⟩
  | 18 => ⟨S65536x64, .f32⟩
  | 19 => ⟨S65536x64, .f32⟩
  | 20 => ⟨S1x64, .f32⟩
  | 21 => ⟨S65536x64, .f32⟩
  | 22 => ⟨S65536x64, .f32⟩
  | 23 => ⟨S_, .f32⟩
  | 24 => ⟨S65536x64, .f32⟩
  | 25 => ⟨S65536x64, .f32⟩
  | 26 => ⟨S65536x512, .f32⟩
  | 27 => ⟨S1x512, .f32⟩
  | 28 => ⟨S65536x512, .f32⟩
  | 29 => ⟨S65536x512, .f32⟩
  | 30 => ⟨S65536x512, .f32⟩
  | 31 => ⟨S65536x8x64, .f32⟩
  | 32 => ⟨S_, .f32⟩
  | 33 => ⟨S_, .f32⟩
  | 34 => ⟨S65536x8x64, .f32⟩
  | 35 => ⟨S65536x8x1, .f32⟩
  | 36 => ⟨S65536x8, .f32⟩
  | 37 => ⟨S65536x8x1, .f32⟩
  | 38 => ⟨S_, .f32⟩
  | 39 => ⟨S65536x8x1, .f32⟩
  | 40 => ⟨S65536x8x1, .f32⟩
  | 41 => ⟨S65536x8x64, .f32⟩
  | 42 => ⟨S65536x8x64, .f32⟩
  | 43 => ⟨S65536x8x64, .f32⟩
  | 44 => ⟨S65536x8x64, .f32⟩
  | 45 => ⟨S65536x8x1, .f32⟩
  | 46 => ⟨S65536x8x64, .f32⟩
  | 47 => ⟨S65536x8x64, .i1⟩
  | 48 => ⟨S65536x8x64, .i32⟩
  | 49 => ⟨S_, .i32⟩
  | 50 => ⟨S65536x8, .i32⟩
  | 51 => ⟨S65536x8x1, .i32⟩
  | 52 => ⟨S_, .i32⟩
  | 53 => ⟨S_, .f32⟩
  | 54 => ⟨S65536x8x65, .f32⟩
  | 55 => ⟨S_, .i32⟩
  | 56 => ⟨S65536x8x1, .i32⟩
  | 57 => ⟨S65536x8x1, .i1⟩
  | 58 => ⟨S_, .i32⟩
  | 59 => ⟨S65536x8x1, .i32⟩
  | 60 => ⟨S65536x8x1, .i32⟩
  | 61 => ⟨S65536x8x1, .i32⟩
  | 62 => ⟨S65536x8x1x1, .i32⟩
  | 63 => ⟨S1, .i32⟩
  | 64 => ⟨S_, .i32⟩
  | 65 => ⟨S65536x8x1x1, .i32⟩
  | 66 => ⟨S65536x8x1x1, .i1⟩
  | 67 => ⟨S1x1x1x1, .i32⟩
  | 68 => ⟨S65536x8x1x1, .i32⟩
  | 69 => ⟨S65536x8x1x1, .i1⟩
  | 70 => ⟨S65536x8x1x1, .i1⟩
  | 71 => ⟨S_, .i1⟩
  | 72 => ⟨S65536x8x1, .i1⟩
  | 73 => ⟨S65536x8x1, .f32⟩
  | 74 => ⟨S_, .f32⟩
  | 75 => ⟨S65536x8x1, .f32⟩
  | 76 => ⟨S65536x8x1, .f32⟩
  | 77 => ⟨S65536x8, .f32⟩
  | 78 => ⟨S_, .i32⟩
  | 79 => ⟨S65536x8x1, .i32⟩
  | 80 => ⟨S65536x8x1, .i1⟩
  | 81 => ⟨S_, .i32⟩
  | 82 => ⟨S65536x8x1, .i32⟩
  | 83 => ⟨S65536x8x1, .i32⟩
  | 84 => ⟨S65536x8x1, .i32⟩
  | 85 => ⟨S65536x8x1x1, .i32⟩
  | 86 => ⟨S1, .i32⟩
  | 87 => ⟨S_, .i32⟩
  | 88 => ⟨S65536x8x1x1, .i32⟩
  | 89 => ⟨S65536x8x1x1, .i1⟩
  | 90 => ⟨S1x1x1x1, .i32⟩
  | 91 => ⟨S65536x8x1x1, .i32⟩
  | 92 => ⟨S65536x8x1x1, .i1⟩
  | 93 => ⟨S65536x8x1x1, .i1⟩
  | 94 => ⟨S_, .i1⟩
  | 95 => ⟨S65536x8x1, .i1⟩
  | 96 => ⟨S65536x8x1, .f32⟩
  | 97 => ⟨S_, .f32⟩
  | 98 => ⟨S65536x8x1, .f32⟩
  | 99 => ⟨S65536x8x1, .f32⟩
  | 100 => ⟨S65536x8, .f32⟩
  | 101 => ⟨S65536x8, .f32⟩
  | 102 => ⟨S65536x8, .f32⟩
  | 103 => ⟨S65536x8, .i32⟩
  | 104 => ⟨S65536x8, .f32⟩
  | 105 => ⟨S_, .f32⟩
  | 106 => ⟨S65536x8, .f32⟩
  | 107 => ⟨S65536x8, .f32⟩
  | 108 => ⟨S65536x8, .f32⟩
  | 109 => ⟨S_, .f32⟩
  | 110 => ⟨S65536x8, .f32⟩
  | 111 => ⟨S65536x8, .f32⟩
  | 112 => ⟨S65536x1, .f32⟩
  | 113 => ⟨S65536x1, .f32⟩
  | 114 => ⟨S65536x1, .f32⟩
  | 115 => ⟨S65536x1, .f32⟩
  | 116 => ⟨S65536x1, .f32⟩
  | 117 => ⟨S65536x1, .f32⟩
  | 118 => ⟨S65536x1, .f32⟩
  | 119 => ⟨S65536x1, .f32⟩
  | 120 => ⟨S65536x1, .f32⟩
  | 121 => ⟨S65536x1, .f32⟩
  | 122 => ⟨S65536x1, .f32⟩
  | 123 => ⟨S65536x1, .f32⟩
  | 124 => ⟨S65536x1, .f32⟩
  | 125 => ⟨S65536x1, .f32⟩
  | 126 => ⟨S65536x1, .f32⟩
  | 127 => ⟨S65536x1, .f32⟩
  | _ => ⟨S65536x17, .f32⟩

abbrev hbmTy0_1 (i : Nat) : BufTy := match i % 128 with
  | 0 => ⟨S65536x17, .f32⟩
  | _ => ⟨S65536x17, .f32⟩

abbrev hbmTy (i : Nat) : BufTy := match i / 128 with
  | 0 => hbmTy0_0 i
  | 1 => hbmTy0_1 i
  | _ => ⟨S65536x17, .f32⟩

abbrev bufTy : (tb : Table) → Fin (tcTables nBuf tb) → BufTy
  | .hbm, ⟨i, _⟩ => hbmTy i
  | _, _ => ⟨S65536x17, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_cst : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call1_cst : Ref sig .tc := ⟨.hbm, 23, rfl⟩
abbrev main_call1_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call2_call0_cst : Ref sig .tc := ⟨.hbm, 32, rfl⟩
abbrev main_call2_call0_v0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c : Ref sig .tc := ⟨.hbm, 49, rfl⟩
abbrev main_v35 : Ref sig .tc := ⟨.hbm, 50, rfl⟩
abbrev main_v36 : Ref sig .tc := ⟨.hbm, 51, rfl⟩
abbrev main_c_0 : Ref sig .tc := ⟨.hbm, 52, rfl⟩
abbrev main_call3_v0 : Ref sig .tc := ⟨.hbm, 53, rfl⟩
abbrev main_v37 : Ref sig .tc := ⟨.hbm, 54, rfl⟩
abbrev main_call4_c : Ref sig .tc := ⟨.hbm, 55, rfl⟩
abbrev main_call4_v0 : Ref sig .tc := ⟨.hbm, 56, rfl⟩
abbrev main_call4_v1 : Ref sig .tc := ⟨.hbm, 57, rfl⟩
abbrev main_call4_c_0 : Ref sig .tc := ⟨.hbm, 58, rfl⟩
abbrev main_call4_v2 : Ref sig .tc := ⟨.hbm, 59, rfl⟩
abbrev main_call4_v3 : Ref sig .tc := ⟨.hbm, 60, rfl⟩
abbrev main_call4_v4 : Ref sig .tc := ⟨.hbm, 61, rfl⟩
abbrev main_call4_v5 : Ref sig .tc := ⟨.hbm, 62, rfl⟩
abbrev main_call4_c_1 : Ref sig .tc := ⟨.hbm, 63, rfl⟩
abbrev main_call4_c_2 : Ref sig .tc := ⟨.hbm, 64, rfl⟩
abbrev main_call4_v6 : Ref sig .tc := ⟨.hbm, 65, rfl⟩
abbrev main_call4_v7 : Ref sig .tc := ⟨.hbm, 66, rfl⟩
abbrev main_call4_v8 : Ref sig .tc := ⟨.hbm, 67, rfl⟩
abbrev main_call4_v9 : Ref sig .tc := ⟨.hbm, 68, rfl⟩
abbrev main_call4_v10 : Ref sig .tc := ⟨.hbm, 69, rfl⟩
abbrev main_call4_v11 : Ref sig .tc := ⟨.hbm, 70, rfl⟩
abbrev main_call4_c_3 : Ref sig .tc := ⟨.hbm, 71, rfl⟩
abbrev main_call4_v12 : Ref sig .tc := ⟨.hbm, 72, rfl⟩
abbrev main_call4_v13 : Ref sig .tc := ⟨.hbm, 73, rfl⟩
abbrev main_call4_cst : Ref sig .tc := ⟨.hbm, 74, rfl⟩
abbrev main_call4_v14 : Ref sig .tc := ⟨.hbm, 75, rfl⟩
abbrev main_v38 : Ref sig .tc := ⟨.hbm, 76, rfl⟩
abbrev main_v39 : Ref sig .tc := ⟨.hbm, 77, rfl⟩
abbrev main_call5_c : Ref sig .tc := ⟨.hbm, 78, rfl⟩
abbrev main_call5_v0 : Ref sig .tc := ⟨.hbm, 79, rfl⟩
abbrev main_call5_v1 : Ref sig .tc := ⟨.hbm, 80, rfl⟩
abbrev main_call5_c_0 : Ref sig .tc := ⟨.hbm, 81, rfl⟩
abbrev main_call5_v2 : Ref sig .tc := ⟨.hbm, 82, rfl⟩
abbrev main_call5_v3 : Ref sig .tc := ⟨.hbm, 83, rfl⟩
abbrev main_call5_v4 : Ref sig .tc := ⟨.hbm, 84, rfl⟩
abbrev main_call5_v5 : Ref sig .tc := ⟨.hbm, 85, rfl⟩
abbrev main_call5_c_1 : Ref sig .tc := ⟨.hbm, 86, rfl⟩
abbrev main_call5_c_2 : Ref sig .tc := ⟨.hbm, 87, rfl⟩
abbrev main_call5_v6 : Ref sig .tc := ⟨.hbm, 88, rfl⟩
abbrev main_call5_v7 : Ref sig .tc := ⟨.hbm, 89, rfl⟩
abbrev main_call5_v8 : Ref sig .tc := ⟨.hbm, 90, rfl⟩
abbrev main_call5_v9 : Ref sig .tc := ⟨.hbm, 91, rfl⟩
abbrev main_call5_v10 : Ref sig .tc := ⟨.hbm, 92, rfl⟩
abbrev main_call5_v11 : Ref sig .tc := ⟨.hbm, 93, rfl⟩
abbrev main_call5_c_3 : Ref sig .tc := ⟨.hbm, 94, rfl⟩
abbrev main_call5_v12 : Ref sig .tc := ⟨.hbm, 95, rfl⟩
abbrev main_call5_v13 : Ref sig .tc := ⟨.hbm, 96, rfl⟩
abbrev main_call5_cst : Ref sig .tc := ⟨.hbm, 97, rfl⟩
abbrev main_call5_v14 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_cst_1 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_cst_2 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩

abbrev nD : Nat := 1
abbrev τ : Topo := Topo.v7x

variable {F : FTy → Type} [FloatOps F]
-- ==== Proof.Head.lean ====
module

public import proofs.«01_k».proof.Proof.Gen.KernelIdeal.Frame
public import Idealize.ShloMosaic.Lib.Pointwise

@[expose] public section

set_option maxRecDepth 16384

noncomputable section

namespace Cert.KernelIdeal.Head

open Cert.KernelIdeal Cert.KernelIdeal.Gen Idealize.ShloMosaic

variable {F : FTy → Type} [FloatOps F] [Named F]

/-- The total of the bin widths: the last row of the running sums. -/
def total (q : FVec F S64x8192 .f32) : FVec F S1x8192 .f32 :=
  extractStridedSlice S1x8192 ![63, 0] q slices_S64x8192_o63_0_S1x8192

/-- The row in the middle, where the search begins. -/
def middle (q : FVec F S64x8192 .f32) : FVec F S1x8192 .f32 :=
  extractStridedSlice S1x8192 ![31, 0] q slices_S64x8192_o31_0_S1x8192

/-- The upper half of the rows that are left to search. -/
def upper (q : FVec F S64x8192 .f32) : FVec F S31x8192 .f32 :=
  extractStridedSlice S31x8192 ![32, 0] q slices_S64x8192_o32_0_S31x8192

/-- The lower half of the rows that are left to search. -/
def lower (q : FVec F S64x8192 .f32) : FVec F S31x8192 .f32 :=
  extractStridedSlice S31x8192 ![0, 0] q slices_S64x8192_o0_0_S31x8192

/-- The row sought, scaled by the total. -/
def target (y : FVec F S1x8192 .f32) (q : FVec F S64x8192 .f32) : FVec F S1x8192 .f32 :=
  mulf y (total q)

/-- Whether the search goes to the upper half. -/
def goUp (y : FVec F S1x8192 .f32) (q : FVec F S64x8192 .f32) : IVec S1x8192 1 :=
  cmpf .olt (middle q) (target y q)

/-- One output row: the inverse of the piecewise linear map with running sums `q` at the row `y`. -/
def rowX (y : FVec F S1x8192 .f32) (q : FVec F S64x8192 .f32) : FVec F S1x8192 .f32 :=
  k0_pay21 (k0_pay16 (target y q) (goUp y q) (upper q) (lower q))
    (k0_pay19 (total q) (target y q) (middle q) (goUp y q) (upper q) (lower q)) k0_pay20

/-- One factor of the Jacobian: the inverse slope in the bin that the search finds. -/
def rowJ (y : FVec F S1x8192 .f32) (q : FVec F S64x8192 .f32) : FVec F S1x8192 .f32 :=
  mulf (total q) (k0_pay18 (total q) (target y q) (middle q) (goUp y q) (upper q) (lower q))

section
variable (x0 : Vec F S17x8192 .f32) (x1 : Vec F S64x8 .f32) (x2 : Vec F S64x1 .f32) (x3 : Vec F S64x64 .f32)
  (x4 : Vec F S64x1 .f32) (x5 : Vec F S512x64 .f32) (x6 : Vec F S512x64 .f32)

/-- The second hidden layer of one block. -/
def hid : FVec F S64x8192 .f32 :=
  k0_pay2 (View.ld x0 r0_0) (View.ld x1 r0_1) (View.ld x2 r0_2) (View.ld x3 r0_3) (View.ld x4 r0_2)

/-- The eight output rows and the Jacobian row, one head after another, as one block is written. -/
def rows : Vec F S9x8192 .f32 :=
  View.canon [⟨r0_20, (mulf (mulf (mulf (mulf (mulf (mulf (mulf (mulf (k0_pay3 (View.ld x0 r0_0))
      (rowJ (extractStridedSlice S1x8192 ![8, 0] (k0_pay1 (View.ld x0 r0_0)) slices_S17x8192_o8_0_S1x8192) (k0_pay23 (hid x0 x1 x2 x3 x4) (View.ld x5 r0_4) (View.ld x6 r0_4))))
      (rowJ (extractStridedSlice S1x8192 ![9, 0] (k0_pay1 (View.ld x0 r0_0)) slices_S17x8192_o9_0_S1x8192) (k0_pay23 (hid x0 x1 x2 x3 x4) (View.ld x5 r0_6) (View.ld x6 r0_6))))
      (rowJ (extractStridedSlice S1x8192 ![10, 0] (k0_pay1 (View.ld x0 r0_0)) slices_S17x8192_o10_0_S1x8192) (k0_pay23 (hid x0 x1 x2 x3 x4) (View.ld x5 r0_8) (View.ld x6 r0_8))))
      (rowJ (extractStridedSlice S1x8192 ![11, 0] (k0_pay1 (View.ld x0 r0_0)) slices_S17x8192_o11_0_S1x8192) (k0_pay23 (hid x0 x1 x2 x3 x4) (View.ld x5 r0_10) (View.ld x6 r0_10))))
      (rowJ (extractStridedSlice S1x8192 ![12, 0] (k0_pay1 (View.ld x0 r0_0)) slices_S17x8192_o12_0_S1x8192) (k0_pay23 (hid x0 x1 x2 x3 x4) (View.ld x5 r0_12) (View.ld x6 r0_12))))
      (rowJ (extractStridedSlice S1x8192 ![13, 0] (k0_pay1 (View.ld x0 r0_0)) slices_S17x8192_o13_0_S1x8192) (k0_pay23 (hid x0 x1 x2 x3 x4) (View.ld x5 r0_14) (View.ld x6 r0_14))))
      (rowJ (extractStridedSlice S1x8192 ![14, 0] (k0_pay1 (View.ld x0 r0_0)) slices_S17x8192_o14_0_S1x8192) (k0_pay23 (hid x0 x1 x2 x3 x4) (View.ld x5 r0_16) (View.ld x6 r0_16))))
      (rowJ (extractStridedSlice S1x8192 ![15, 0] (k0_pay1 (View.ld x0 r0_0)) slices_S17x8192_o15_0_S1x8192) (k0_pay23 (hid x0 x1 x2 x3 x4) (View.ld x5 r0_18) (View.ld x6 r0_18))))⟩,
    ⟨r0_19, rowX (extractStridedSlice S1x8192 ![15, 0] (k0_pay1 (View.ld x0 r0_0)) slices_S17x8192_o15_0_S1x8192) (k0_pay23 (hid x0 x1 x2 x3 x4) (View.ld x5 r0_18) (View.ld x6 r0_18))⟩,
    ⟨r0_17, rowX (extractStridedSlice S1x8192 ![14, 0] (k0_pay1 (View.ld x0 r0_0)) slices_S17x8192_o14_0_S1x8192) (k0_pay23 (hid x0 x1 x2 x3 x4) (View.ld x5 r0_16) (View.ld x6 r0_16))⟩,
    ⟨r0_15, rowX (extractStridedSlice S1x8192 ![13, 0] (k0_pay1 (View.ld x0 r0_0)) slices_S17x8192_o13_0_S1x8192) (k0_pay23 (hid x0 x1 x2 x3 x4) (View.ld x5 r0_14) (View.ld x6 r0_14))⟩,
    ⟨r0_13, rowX (extractStridedSlice S1x8192 ![12, 0] (k0_pay1 (View.ld x0 r0_0)) slices_S17x8192_o12_0_S1x8192) (k0_pay23 (hid x0 x1 x2 x3 x4) (View.ld x5 r0_12) (View.ld x6 r0_12))⟩,
    ⟨r0_11, rowX (extractStridedSlice S1x8192 ![11, 0] (k0_pay1 (View.ld x0 r0_0)) slices_S17x8192_o11_0_S1x8192) (k0_pay23 (hid x0 x1 x2 x3 x4) (View.ld x5 r0_10) (View.ld x6 r0_10))⟩,
    ⟨r0_9, rowX (extractStridedSlice S1x8192 ![10, 0] (k0_pay1 (View.ld x0 r0_0)) slices_S17x8192_o10_0_S1x8192) (k0_pay23 (hid x0 x1 x2 x3 x4) (View.ld x5 r0_8) (View.ld x6 r0_8))⟩,
    ⟨r0_7, rowX (extractStridedSlice S1x8192 ![9, 0] (k0_pay1 (View.ld x0 r0_0)) slices_S17x8192_o9_0_S1x8192) (k0_pay23 (hid x0 x1 x2 x3 x4) (View.ld x5 r0_6) (View.ld x6 r0_6))⟩,
    ⟨r0_5, rowX (extractStridedSlice S1x8192 ![8, 0] (k0_pay1 (View.ld x0 r0_0)) slices_S17x8192_o8_0_S1x8192) (k0_pay23 (hid x0 x1 x2 x3 x4) (View.ld x5 r0_4) (View.ld x6 r0_4))⟩]

/-- What the body writes is the same head eight times. -/
theorem out_eq : out0_7 x0 x1 x2 x3 x4 x5 x6 = rows x0 x1 x2 x3 x4 x5 x6 := by
  unfold rows
  unfold_out out0_7
  rfl

end

end Cert.KernelIdeal.Head
-- ==== Proof.Search.lean ====
module

public import Idealize.ShloMosaic.PureOps.Ideal
public import Idealize.ShloMosaic.Lib.Routing.Count
public import Mathlib.Algebra.BigOperators.Fin
public import Mathlib.Data.Finset.Fold

@[expose] public section

noncomputable section

/-! # The piecewise linear map and its inverse

`64` positive widths make a growing sequence of running sums `P`; the map's inverse at a row `y` finds the bin that
`y * P 64` falls into and interpolates there. Two ways of finding the bin are compared: counting the running sums below
(over all 64), and two halvings followed by a scan over 15. -/

namespace Spline

open Idealize.ShloMosaic

/-- The width of bin `n`, as a real number. Beyond the last bin it is 1, so that every width is positive. -/
def wid (e : Fin 64 → EReal) (n : ℕ) : ℝ := if h : n < 64 then (e ⟨n, h⟩).toReal else 1

/-- The running sums: the total width of the bins below `n`. -/
def P (e : Fin 64 → EReal) (n : ℕ) : ℝ := ∑ i ∈ Finset.range n, wid e i

/-- The bin that `y` falls into: how many running sums lie below `y` times the total. -/
def bin (e : Fin 64 → EReal) (y : EReal) : ℕ :=
  open Classical in Nat.count (fun k => ((P e (k + 1) : ℝ) : EReal) < y * ((P e 64 : ℝ) : EReal)) 64

/-- The widths are positive real numbers. -/
def Pos (e : Fin 64 → EReal) : Prop := ∀ k, ∃ r : ℝ, 0 < r ∧ e k = (r : EReal)

/-- The inverse map's value. -/
def valX (e : Fin 64 → EReal) (y : EReal) : EReal :=
  (y * ((P e 64 : ℝ) : EReal) - ((P e (bin e y) : ℝ) : EReal)) *
      ((1 / (wid e (bin e y) * 64) : ℝ) : EReal) + (((bin e y : ℕ) / 64 : ℝ) : EReal)

/-- The inverse map's derivative. -/
def valJ (e : Fin 64 → EReal) (y : EReal) : EReal := ((P e 64 / (wid e (bin e y) * 64) : ℝ) : EReal)

variable {e : Fin 64 → EReal} {y : EReal}

theorem wid_pos (he : Pos e) (n : ℕ) : 0 < wid e n := by
  unfold wid
  split
  · next h => obtain ⟨r, hr, h2⟩ := he ⟨n, h⟩; rw [h2]; simpa using hr
  · exact one_pos

theorem coe_wid (he : Pos e) (k : Fin 64) : ((wid e k : ℝ) : EReal) = e k := by
  obtain ⟨r, hr, h2⟩ := he k
  unfold wid
  rw [dif_pos k.isLt, h2]; simp

theorem P_zero : P e 0 = 0 := by simp [P]

theorem P_succ (n : ℕ) : P e (n + 1) = P e n + wid e n := by
  simp [P, Finset.sum_range_succ]

theorem P_mono (he : Pos e) : StrictMono (P e) :=
  strictMono_nat_of_lt_succ fun n => by rw [P_succ]; have := wid_pos he n; linarith

theorem P_nonneg (he : Pos e) (n : ℕ) : 0 ≤ P e n := by
  rw [← P_zero (e := e)]; exact (P_mono he).monotone (Nat.zero_le n)

theorem P_pos (he : Pos e) (n : ℕ) (hn : 0 < n) : 0 < P e n := by
  rw [← P_zero (e := e)]; exact (P_mono he) hn

/-- A running sum, as the sum of the extended reals up to bin `i`. -/
theorem sum_le_eq (he : Pos e) (i : Fin 64) : ∑ k : Fin 64, (if k ≤ i then e k else 0) = ((P e (i.val + 1) : ℝ) : EReal) := by
  have h1 : ∀ k : Fin 64, (if k ≤ i then e k else 0) = (((if k.val < i.val + 1 then wid e k.val else 0 : ℝ)) : EReal) := by
    intro k
    rw [← coe_wid he k]
    by_cases h : k ≤ i
    · rw [if_pos h, if_pos (by have : k.val ≤ i.val := h; omega)]
    · rw [if_neg h, if_neg (by have : ¬ k.val ≤ i.val := h; omega)]; rfl
  rw [Finset.sum_congr rfl fun k _ => h1 k]
  have h2 : ∀ s : Finset (Fin 64), ∀ f : Fin 64 → ℝ, ∑ k ∈ s, ((f k : ℝ) : EReal) = ((∑ k ∈ s, f k : ℝ) : EReal) := by
    intro s f
    induction s using Finset.cons_induction with
    | empty => simp
    | cons a s ha ih => rw [Finset.sum_cons, Finset.sum_cons, ih, EReal.coe_add]
  rw [h2, Fin.sum_univ_eq_sum_range (fun k => if k < i.val + 1 then wid e k else 0) 64]
  congr 1
  unfold P
  rw [← Finset.sum_filter]
  congr 1
  ext k
  simp only [Finset.mem_filter, Finset.mem_range]
  have := i.isLt
  omega

/-- The running sums below the sought value are exactly those of the bins before the one found. -/
theorem lt_iff (he : Pos e) {k : ℕ} (hk : k < 64) :
    ((P e (k + 1) : ℝ) : EReal) < y * ((P e 64 : ℝ) : EReal) ↔ k < bin e y := by
  unfold bin
  classical
  refine Routing.lt_count_iff (Q := fun k => ((P e (k + 1) : ℝ) : EReal) < y * ((P e 64 : ℝ) : EReal)) ?_ hk
  intro a b hab _ h
  refine lt_of_le_of_lt ?_ h
  exact EReal.coe_le_coe_iff.mpr ((P_mono he).monotone (by omega))

/-- Below or at 1, the sought value falls into one of the 64 bins. -/
theorem bin_le (he : Pos e) (hy : y ≤ 1) : bin e y ≤ 63 := by
  by_contra h
  have h1 := (lt_iff he (y := y) (k := 63) (by omega)).mpr (by omega)
  refine absurd h1 (not_lt.mpr ?_)
  calc y * ((P e 64 : ℝ) : EReal) ≤ 1 * ((P e 64 : ℝ) : EReal) :=
        mul_le_mul_of_nonneg_right hy (EReal.coe_nonneg.mpr (P_nonneg he _))
    _ = _ := one_mul _

/-- The greatest running sum below the sought value, found by a scan over the 15 from `b` on. -/
theorem offset_eq (he : Pos e) {b c : ℕ} (hb : b ≤ c) (hc : c ≤ b + 15) (f : Fin 15 → EReal)
    (hf : ∀ x, f x = if b + x.val < c then ((P e (b + x.val + 1) : ℝ) : EReal) else 0) :
    max (Finset.univ.fold max (⊥ : EReal) f) ((P e b : ℝ) : EReal) = ((P e c : ℝ) : EReal) := by
  apply le_antisymm
  · refine max_le ?_ (EReal.coe_le_coe_iff.mpr ((P_mono he).monotone hb))
    rw [Finset.fold_max_le]
    refine ⟨bot_le, fun x _ => ?_⟩
    rw [hf]
    split
    · exact EReal.coe_le_coe_iff.mpr ((P_mono he).monotone (by omega))
    · exact EReal.coe_nonneg.mpr (P_nonneg he c)
  · rcases Nat.eq_or_lt_of_le hb with h | h
    · subst h; exact le_max_right _ _
    · refine le_max_of_le_left ?_
      rw [Finset.le_fold_max]
      refine Or.inr ⟨⟨c - b - 1, by omega⟩, Finset.mem_univ _, ?_⟩
      rw [hf, if_pos (by show b + (c - b - 1) < c; omega)]
      exact EReal.coe_le_coe_iff.mpr ((P_mono he).monotone (by show c ≤ b + (c - b - 1) + 1; omega))

/-- The least running sum not below the sought value, found by the same scan. -/
theorem next_eq (he : Pos e) {b c : ℕ} (hb : b ≤ c) (hc : c ≤ b + 15) (f : Fin 15 → EReal)
    (hf : ∀ x, f x = if b + x.val < c then ⊤ else ((P e (b + x.val + 1) : ℝ) : EReal)) :
    min (Finset.univ.fold min (⊤ : EReal) f) ((P e (b + 16) : ℝ) : EReal) = ((P e (c + 1) : ℝ) : EReal) := by
  apply le_antisymm
  · rcases Nat.eq_or_lt_of_le hc with h | h
    · subst h; exact min_le_right _ _
    · refine min_le_of_left_le ?_
      rw [Finset.fold_min_le]
      refine Or.inr ⟨⟨c - b, by omega⟩, Finset.mem_univ _, ?_⟩
      rw [hf, if_neg (by show ¬ b + (c - b) < c; omega)]
      exact EReal.coe_le_coe_iff.mpr ((P_mono he).monotone (by show b + (c - b) + 1 ≤ c + 1; omega))
  · refine le_min ?_ (EReal.coe_le_coe_iff.mpr ((P_mono he).monotone (by omega)))
    rw [Finset.le_fold_min]
    refine ⟨le_top, fun x _ => ?_⟩
    rw [hf]
    split
    · exact le_top
    · exact EReal.coe_le_coe_iff.mpr ((P_mono he).monotone (by omega))

/-- The number of running sums below the sought value, among the 15 scanned. -/
theorem count_eq {b c : ℕ} (hb : b ≤ c) (hc : c ≤ b + 15) (f : Fin 15 → EReal)
    (hf : ∀ x, f x = if b + x.val < c then 1 else 0) : ((b : ℝ) : EReal) + ∑ x, f x = ((c : ℝ) : EReal) := by
  obtain ⟨d, rfl⟩ := Nat.exists_eq_add_of_le hb
  rw [Finset.sum_congr rfl fun x _ => hf x]
  have h1 : ∀ d : Fin 16, (Finset.univ.filter fun x : Fin 15 => x.val < d.val).card = d.val := by decide
  have h2 := h1 ⟨d, by omega⟩
  rw [Finset.sum_boole]
  have h3 : (Finset.univ.filter fun x : Fin 15 => b + x.val < b + d) = Finset.univ.filter fun x : Fin 15 => x.val < d := by
    ext x; simp
  rw [h3, h2]
  push_cast
  rfl

end Spline
-- ==== Proof.Spec.lean ====
module

public import proofs.«01_k».proof.Proof.Search

@[expose] public section

noncomputable section

/-! # What both programs compute on one row

Two hidden layers, the widths of the eight heads and the inverse maps, as functions of one row of the input and the
weights. -/

namespace Spline

open Idealize.ShloMosaic

/-- The bit pattern of 64. -/
theorem ofBits_64 : Ideal.ofBits .f32 0x42800000#32 = ((64 : ℝ) : EReal) := by
  simp [Ideal.ofBits, Ideal.ieee, -EReal.coe_mul]; norm_num

/-- A value that is a real number. -/
def Re (x : EReal) : Prop := ∃ r : ℝ, x = (r : EReal)

theorem Re.zero : Re 0 := ⟨0, rfl⟩
theorem Re.mul {x y : EReal} (hx : Re x) (hy : Re y) : Re (x * y) := by
  obtain ⟨a, rfl⟩ := hx; obtain ⟨b, rfl⟩ := hy; exact ⟨a * b, (EReal.coe_mul a b).symm⟩
theorem Re.add {x y : EReal} (hx : Re x) (hy : Re y) : Re (x + y) := by
  obtain ⟨a, rfl⟩ := hx; obtain ⟨b, rfl⟩ := hy; exact ⟨a + b, (EReal.coe_add a b).symm⟩
theorem Re.max {x y : EReal} (hx : Re x) (hy : Re y) : Re (max x y) := by
  rcases max_choice x y with h | h <;> rw [h] <;> assumption
theorem Re.sum {ι : Type} (s : Finset ι) {f : ι → EReal} (h : ∀ i, Re (f i)) : Re (∑ i ∈ s, f i) := by
  induction s using Finset.cons_induction with
  | empty => exact Re.zero
  | cons a s ha ih => rw [Finset.sum_cons]; exact (h a).add ih

/-- A sum of reals, as one real. -/
theorem coe_sum {ι : Type} (s : Finset ι) (f : ι → ℝ) : ∑ i ∈ s, ((f i : ℝ) : EReal) = ((∑ i ∈ s, f i : ℝ) : EReal) := by
  induction s using Finset.cons_induction with
  | empty => simp
  | cons a s ha ih => rw [Finset.sum_cons, Finset.sum_cons, ih, EReal.coe_add]

/-- One layer: the inputs times the weights, plus the offset, cut off below 0. -/
def layer {n : ℕ} (x : Fin n → EReal) (W : Fin n → Fin 64 → EReal) (b : Fin 64 → EReal) (i : Fin 64) : EReal :=
  max (∑ k, x k * W k i + b i) 0

theorem layer_re {n : ℕ} {x : Fin n → EReal} {W : Fin n → Fin 64 → EReal} {b : Fin 64 → EReal} (hx : ∀ k, Re (x k))
    (hW : ∀ k i, Re (W k i)) (hb : ∀ i, Re (b i)) (i : Fin 64) : Re (layer x W b i) :=
  ((Re.sum _ fun k => (hx k).mul (hW k i)).add (hb i)).max Re.zero

/-- The widths of one head: the exponentials of its affine outputs. -/
def wids (h : Fin 64 → EReal) (W : Fin 64 → Fin 64 → EReal) (b : Fin 64 → EReal) (k : Fin 64) : EReal :=
  Ideal.exp (∑ x, h x * W x k + b k)

theorem wids_pos {h : Fin 64 → EReal} {W : Fin 64 → Fin 64 → EReal} {b : Fin 64 → EReal} (hh : ∀ k, Re (h k))
    (hW : ∀ k i, Re (W k i)) (hb : ∀ i, Re (b i)) : Pos (wids h W b) := fun k => by
  obtain ⟨r, hr⟩ := (Re.sum Finset.univ fun x => (hh x).mul (hW x k)).add (hb k)
  exact ⟨Real.exp r, Real.exp_pos r, by rw [wids, hr]; rfl⟩

/-- The power of 2 to a sum scaled by the inverse logarithm of 2, times the exponential of the offset, is the
    exponential of the sum with the offset. -/
theorem exp_mul_exp2 {ι : Type} [Fintype ι] {h w : ι → EReal} {b : EReal} (hh : ∀ x, Re (h x)) (hw : ∀ x, Re (w x))
    (hb : Re b) :
    Ideal.exp b * Ideal.exp2 (∑ x, w x * (((Real.log 2)⁻¹ : ℝ) : EReal) * h x) = Ideal.exp (∑ x, h x * w x + b) := by
  choose h' hh' using hh
  choose w' hw' using hw
  obtain ⟨b', rfl⟩ := hb
  simp only [hh', hw', ← EReal.coe_mul, coe_sum, ← EReal.coe_add]
  show ((Real.exp b' : ℝ) : EReal) * ((Real.rpow 2 _ : ℝ) : EReal) = ((Real.exp _ : ℝ) : EReal)
  rw [← EReal.coe_mul]
  congr 1
  have hl : Real.log 2 ≠ 0 := (Real.log_pos (by norm_num)).ne'
  rw [Real.rpow_eq_pow, Real.rpow_def_of_pos (by norm_num), ← Real.exp_add, Finset.mul_sum]
  congr 1
  rw [add_comm]
  congr 1
  refine Finset.sum_congr rfl fun x _ => ?_
  field_simp

/-- The widths of head `t` on one row: two hidden layers over the row's first eight entries, then the head's outputs. -/
def widths (Y : Fin 17 → EReal) (W1 : Fin 8 → Fin 64 → EReal) (b1 : Fin 64 → EReal) (W2 : Fin 64 → Fin 64 → EReal)
    (b2 : Fin 64 → EReal) (W3 : Fin 64 → Fin 512 → EReal) (b3 : Fin 512 → EReal) (t : Fin 8) : Fin 64 → EReal :=
  wids (layer (layer (fun k : Fin 8 => Y ⟨k.val, by omega⟩) W1 b1) W2 b2)
    (fun x k => W3 x ⟨64 * t.val + k.val, by omega⟩) (fun k => b3 ⟨64 * t.val + k.val, by omega⟩)

/-- What is computed of one row: the eight inverse maps' values, then the row's last entry times their derivatives. -/
def outRow (Y : Fin 17 → EReal) (E : Fin 8 → Fin 64 → EReal) (k : Fin 9) : EReal :=
  if h : k.val < 8 then valX (E ⟨k.val, h⟩) (Y ⟨8 + k.val, by omega⟩)
  else Y 16 * ∏ t : Fin 8, valJ (E t) (Y ⟨8 + t.val, by omega⟩)

/-- The row and the weights are real numbers, and the row's second eight entries at most 1. -/
structure Good (Y : Fin 17 → EReal) (W1 : Fin 8 → Fin 64 → EReal) (b1 : Fin 64 → EReal) (W2 : Fin 64 → Fin 64 → EReal)
    (b2 : Fin 64 → EReal) (W3 : Fin 64 → Fin 512 → EReal) (b3 : Fin 512 → EReal) : Prop where
  rowRe : ∀ k : Fin 8, Re (Y ⟨k.val, by omega⟩)
  rowLe : ∀ k : Fin 8, Y ⟨8 + k.val, by omega⟩ ≤ 1
  w1 : ∀ k i, Re (W1 k i)
  c1 : ∀ i, Re (b1 i)
  w2 : ∀ k i, Re (W2 k i)
  c2 : ∀ i, Re (b2 i)
  w3 : ∀ k i, Re (W3 k i)
  c3 : ∀ i, Re (b3 i)

theorem Good.hidden {Y : Fin 17 → EReal} {W1 : Fin 8 → Fin 64 → EReal} {b1 : Fin 64 → EReal} {W2 : Fin 64 → Fin 64 → EReal}
    {b2 : Fin 64 → EReal} {W3 : Fin 64 → Fin 512 → EReal} {b3 : Fin 512 → EReal} (g : Good Y W1 b1 W2 b2 W3 b3) (i : Fin 64) :
    Re (layer (layer (fun k : Fin 8 => Y ⟨k.val, by omega⟩) W1 b1) W2 b2 i) :=
  layer_re (layer_re g.rowRe g.w1 g.c1) g.w2 g.c2 i

theorem Good.pos {Y : Fin 17 → EReal} {W1 : Fin 8 → Fin 64 → EReal} {b1 : Fin 64 → EReal} {W2 : Fin 64 → Fin 64 → EReal}
    {b2 : Fin 64 → EReal} {W3 : Fin 64 → Fin 512 → EReal} {b3 : Fin 512 → EReal} (g : Good Y W1 b1 W2 b2 W3 b3) (t : Fin 8) :
    Pos (widths Y W1 b1 W2 b2 W3 b3 t) :=
  wids_pos g.hidden (fun _ _ => g.w3 _ _) fun _ => g.c3 _

/-- The result at row `r`, column `k`: the row's first eight entries, then what is computed of the row. -/
def result (Y : Fin 65536 → Fin 17 → EReal) (W1 : Fin 8 → Fin 64 → EReal) (b1 : Fin 64 → EReal)
    (W2 : Fin 64 → Fin 64 → EReal) (b2 : Fin 64 → EReal) (W3 : Fin 64 → Fin 512 → EReal) (b3 : Fin 512 → EReal)
    (r : Fin 65536) (k : Fin 17) : EReal :=
  if h : k.val < 8 then Y r k else outRow (Y r) (widths (Y r) W1 b1 W2 b2 W3 b3) ⟨k.val - 8, by omega⟩

end Spline
-- ==== Proof.Lane.lean ====
module

public import proofs.«01_k».proof.Proof.Head
public import proofs.«01_k».proof.Proof.Search
public import proofs.«01_k».proof.Proof.Spec
public import Idealize.ShloMosaic.Rules

@[expose] public section

set_option maxRecDepth 16384

noncomputable section

/-! # One lane of one head

The kernel's search on one lane computes the inverse map's value and derivative. -/

namespace Cert.KernelIdeal.Head

open Cert.KernelIdeal Cert.KernelIdeal.Gen Idealize.ShloMosaic Spline

theorem ofBits_32 : Ideal.ofBits .f32 0x42000000#32 = ((32 : ℝ) : EReal) := by
  simp [Ideal.ofBits, Ideal.ieee, -EReal.coe_mul]; norm_num
theorem ofBits_16 : Ideal.ofBits .f32 0x41800000#32 = ((16 : ℝ) : EReal) := by
  simp [Ideal.ofBits, Ideal.ieee, -EReal.coe_mul]; norm_num
theorem ofBits_64th : Ideal.ofBits .f32 0x3C800000#32 = ((1 / 64 : ℝ) : EReal) := by
  simp [Ideal.ofBits, Ideal.ieee, -EReal.coe_mul]; norm_num
theorem ofBits_top : Ideal.ofBits .f32 0x7F800000#32 = ⊤ := by
  simp [Ideal.ofBits, Ideal.ieee]
theorem ofBits_bot : Ideal.ofBits .f32 0xFF800000#32 = ⊥ := by
  simp [Ideal.ofBits, Ideal.ieee]
theorem named_big : Named.named (F := Ideal) (φ := .f32) κ "big" 0x7F61B1E6#32 = (⊤ : EReal) :=
  IdealRules.named_const.ideal_named_scalar _ _ _ _ rfl
theorem named_log2e : Named.named (F := Ideal) (φ := .f32) κ "log2e" 0x3FB8AA3B#32 = (((Real.log 2)⁻¹ : ℝ) : EReal) :=
  IdealRules.named_const.ideal_named_scalar _ _ _ _ rfl

/-- A one-bit comparison result, widened and read as a number, is 1 or 0. -/
theorem sitofp_bit (p : Prop) [Decidable p] :
    FloatOps.sitofp (F := Ideal) .f32 (BitVec.setWidth 32 (BitVec.ofBool (decide p))) = if p then (1 : EReal) else 0 := by
  show ((((BitVec.setWidth 32 (BitVec.ofBool (decide p))).toInt : ℤ) : ℝ) : EReal) = _
  by_cases h : p
  · simp [h]
  · simp [h]

variable {e : Fin 64 → EReal} {y : EReal}

/-- The slope's inverse, from what the scan over the 15 running sums from `b` on finds. -/
theorem rs_eq (he : Pos e) {b : ℕ} (hb : b ≤ bin e y) (hc : bin e y ≤ b + 15) (f g : Fin 15 → EReal)
    (hf : ∀ x, f x = if b + x.val < bin e y then ((P e (b + x.val + 1) : ℝ) : EReal) else 0)
    (hg : ∀ x, g x = if b + x.val < bin e y then ⊤ else ((P e (b + x.val + 1) : ℝ) : EReal))
    {Z W : EReal} (hZ : Z = ((P e b : ℝ) : EReal)) (hW : W = ((P e (b + 16) : ℝ) : EReal)) :
    Ideal.div 1 ((min (Finset.univ.fold min ⊤ g) W
        - max (Finset.univ.fold max ⊥ f) Z) * ((64 : ℝ) : EReal))
      = ((1 / (wid e (bin e y) * 64) : ℝ) : EReal) := by
  rw [hZ, hW, offset_eq he hb hc f hf, next_eq he hb hc g hg, P_succ, ← EReal.coe_sub, ← EReal.coe_mul, Ideal.div_coe]
  · rw [one_mul]; congr 3; ring
  · have := wid_pos he (bin e y)
    have h2 : P e (bin e y) + wid e (bin e y) - P e (bin e y) = wid e (bin e y) := by ring
    rw [h2]; positivity

/-- The inverse map's value and derivative, from what the scan finds. -/
theorem xj_eq (he : Pos e) {b : ℕ} (hb : b ≤ bin e y) (hc : bin e y ≤ b + 15) (f g h : Fin 15 → EReal)
    (hf : ∀ x, f x = if b + x.val < bin e y then ((P e (b + x.val + 1) : ℝ) : EReal) else 0)
    (hg : ∀ x, g x = if b + x.val < bin e y then ⊤ else ((P e (b + x.val + 1) : ℝ) : EReal))
    (hh : ∀ x, h x = if b + x.val < bin e y then 1 else 0)
    {Z W B : EReal} (hZ : Z = ((P e b : ℝ) : EReal)) (hW : W = ((P e (b + 16) : ℝ) : EReal)) (hB : B = ((b : ℝ) : EReal)) :
    (y * ((P e 64 : ℝ) : EReal) - max (Finset.univ.fold max ⊥ f) Z) *
        Ideal.div 1 ((min (Finset.univ.fold min ⊤ g) W
        - max (Finset.univ.fold max ⊥ f) Z) * ((64 : ℝ) : EReal))
      + (B + ∑ x, h x) * ((1 / 64 : ℝ) : EReal) = valX e y ∧
    ((P e 64 : ℝ) : EReal) * Ideal.div 1 ((min (Finset.univ.fold min ⊤ g) W
        - max (Finset.univ.fold max ⊥ f) Z) * ((64 : ℝ) : EReal)) = valJ e y := by
  rw [rs_eq he hb hc f g hf hg hZ hW, hZ, offset_eq he hb hc f hf, hB, count_eq hb hc h hh, valX, valJ, ← EReal.coe_mul,
    ← EReal.coe_mul]
  refine ⟨?_, ?_⟩
  · congr 2; ring
  · congr 1; ring

/-- A choice by whether the running sum after bin `k'` lies below the sought value, as the choice by whether `k` is
    before the bin found. -/
theorem ite_lt (he : Pos e) {k k' : ℕ} (h : k' = k) (hk : k < 64) (A B A' B' : EReal) (hA : A = A') (hB : B = B') :
    (if ((P e (k' + 1) : ℝ) : EReal) < y * ((P e 64 : ℝ) : EReal) then A else B) = if k < bin e y then A' else B' := by
  subst h hA hB
  rw [if_congr (lt_iff he hk) rfl rfl]

/-- Equal numbers of bins have equal running sums. -/
theorem coe_P {a b : ℕ} (h : a = b) : ((P e a : ℝ) : EReal) = ((P e b : ℝ) : EReal) := by rw [h]

/-- The kernel's two halvings and scan, on the running sums of positive widths, end in the sought bin: the value and
    the derivative there. -/
theorem row_apply (y : FVec Ideal S1x8192 .f32) (q : FVec Ideal S64x8192 .f32) (j : Fin 8192) (he : Pos e)
    (hq : ∀ k : Fin 64, q (ix2 k j) = ((P e (k.val + 1) : ℝ) : EReal)) (hy : y (ix2 0 j) ≤ 1) :
    rowX (F := Ideal) y q (ix2 0 j) = valX e (y (ix2 0 j)) ∧ rowJ (F := Ideal) y q (ix2 0 j) = valJ e (y (ix2 0 j)) := by
  unfold rowX rowJ goUp target middle upper lower total
  unfold_payloads
  pointwise []
  simp only [hq, ofBits_32, ofBits_16, ofBits_64, ofBits_64th, ofBits_top, ofBits_bot, named_big, sitofp_bit]
  generalize y (ix2 0 j) = u at hy ⊢
  have hc := bin_le he hy
  simp only [show ((15 : Fin 64).val + 1) = 16 from rfl, show ((31 : Fin 64).val + 1) = 32 from rfl,
    show ((47 : Fin 64).val + 1) = 48 from rfl, show ((63 : Fin 64).val + 1) = 64 from rfl]
  have l15 := lt_iff he (y := u) (k := 15) (by omega)
  have l31 := lt_iff he (y := u) (k := 31) (by omega)
  have l47 := lt_iff he (y := u) (k := 47) (by omega)
  simp only [Nat.reduceAdd] at l15 l31 l47
  have z : (0 : EReal) = ((P e 0 : ℝ) : EReal) := by rw [P_zero]; rfl
  by_cases h31 : 31 < bin e u
  · simp only [if_pos (l31.mpr h31)]
    by_cases h47 : 47 < bin e u
    · simp only [if_pos (l47.mpr h47)]
      exact xj_eq he (b := 48) (by omega) (by omega) _ _ _ (fun x => ite_lt he (by omega) (by omega) _ _ _ _ (coe_P (by omega)) rfl)
        (fun x => ite_lt he (by omega) (by omega) _ _ _ _ rfl (coe_P (by omega)))
        (fun x => ite_lt he (by omega) (by omega) _ _ _ _ rfl rfl) rfl rfl (by rw [← EReal.coe_add]; norm_num)
    · simp only [if_neg (mt l47.mp h47)]
      exact xj_eq he (b := 32) (by omega) (by omega) _ _ _ (fun x => ite_lt he (by omega) (by omega) _ _ _ _ (coe_P (by omega)) rfl)
        (fun x => ite_lt he (by omega) (by omega) _ _ _ _ rfl (coe_P (by omega)))
        (fun x => ite_lt he (by omega) (by omega) _ _ _ _ rfl rfl) rfl rfl (by rw [add_zero]; norm_num)
  · simp only [if_neg (mt l31.mp h31)]
    by_cases h15 : 15 < bin e u
    · simp only [if_pos (l15.mpr h15)]
      exact xj_eq he (b := 16) (by omega) (by omega) _ _ _ (fun x => ite_lt he (by omega) (by omega) _ _ _ _ (coe_P (by omega)) rfl)
        (fun x => ite_lt he (by omega) (by omega) _ _ _ _ rfl (coe_P (by omega)))
        (fun x => ite_lt he (by omega) (by omega) _ _ _ _ rfl rfl) rfl rfl (by rw [zero_add]; norm_num)
    · simp only [if_neg (mt l15.mp h15)]
      exact xj_eq he (b := 0) (by omega) (by omega) _ _ _ (fun x => ite_lt he (by omega) (by omega) _ _ _ _ (coe_P (by omega)) rfl)
        (fun x => ite_lt he (by omega) (by omega) _ _ _ _ rfl (coe_P (by omega)))
        (fun x => ite_lt he (by omega) (by omega) _ _ _ _ rfl rfl) z rfl (by rw [zero_add]; norm_num)

end Cert.KernelIdeal.Head
-- ==== Proof.Sums.lean ====
module

public import proofs.«01_k».proof.Proof.Lane
public import proofs.«01_k».proof.Proof.Spec

@[expose] public section

set_option maxRecDepth 16384

noncomputable section

/-! # The running sums and the hidden layers of one block -/

namespace Cert.KernelIdeal.Head

open Cert.KernelIdeal Cert.KernelIdeal.Gen Idealize.ShloMosaic Spline

/-- The product with the triangle of ones, scaled by the exponentials of the offsets, holds the running sums of the
    head's widths. -/
theorem sums_apply (h : FVec Ideal S64x8192 .f32) (w t : FVec Ideal S64x64 .f32) (i : Fin 64) (j : Fin 8192)
    (b : Fin 64 → EReal) (hb : ∀ k, Re (b k)) (hh : ∀ k : Fin 64, Re (h (ix2 k j)))
    (hw : ∀ i k : Fin 64, Re (w (ix2 i k)))
    (ht : ∀ k : Fin 64, t (ix2 i k) = (if k ≤ i then 1 else 0) * Ideal.exp (b k)) :
    k0_pay23 h w t (ix2 i j)
      = ((P (wids (fun x => h (ix2 x j)) (fun x k => w (ix2 k x)) b) (i.val + 1) : ℝ) : EReal) := by
  rw [← sum_le_eq (wids_pos hh (fun k i => hw i k) hb) i]
  unfold_payloads
  pointwise []
  refine Finset.sum_congr rfl fun x _ => ?_
  rw [ht, mul_assoc]
  by_cases hx : x ≤ i
  · rw [if_pos hx, if_pos hx, one_mul]
    unfold wids
    rw [← exp_mul_exp2 hh (hw x) (hb x), named_log2e]
    rfl
  · rw [if_neg hx, if_neg hx, zero_mul]

end Cert.KernelIdeal.Head
-- ==== Proof.Block.lean ====
module

public import proofs.«01_k».proof.Proof.Sums
public import Idealize.ShloMosaic.Lib.Pipeline.ValueKit.Tiles

@[expose] public section

set_option maxRecDepth 16384

noncomputable section

/-! # One block of the output

Each lane of a block holds the eight inverse maps' values and the product of their derivatives. -/

namespace Cert.KernelIdeal.Head

open Cert.KernelIdeal Cert.KernelIdeal.Gen Idealize.ShloMosaic Spline

/-- A row cut out of the input block. -/
theorem cut_apply (x0 : Vec Ideal S17x8192 .f32) (o : ℕ) (h : S17x8192.Slices ![o, 0] S1x8192) (j : Fin 8192)
    (ho : o < 17) :
    extractStridedSlice S1x8192 ![o, 0] (k0_pay1 (View.ld x0 r0_0)) h (ix2 0 j) = x0 (ix2 ⟨o, ho⟩ j) := by
  unfold_payloads
  pointwise []

/-- Sixty-four rows of the stacked weights. -/
theorem ld_apply (x : Vec Ideal S512x64 .f32) (o : ℕ) (inb : ∀ a, (![o, 0] : Fin 2 → Nat) a + S64x64.size a ≤ S512x64.size a)
    (i k : Fin 64) (ho : o + i.val < 512) :
    View.ld x (Rect.unit (s := S512x64) ![o, 0] S64x64.size inb) (ix2 i k) = x (ix2 ⟨o + i.val, ho⟩ k) := by
  refine View.ld_unit_apply_of _ _ _ _ _ _ ?_
  intro a
  fin_cases a <;> simp

variable (x0 : Vec Ideal S17x8192 .f32) (x1 : Vec Ideal S64x8 .f32) (x2 : Vec Ideal S64x1 .f32) (x3 : Vec Ideal S64x64 .f32)
  (x4 : Vec Ideal S64x1 .f32) (x5 x6 : Vec Ideal S512x64 .f32)
  (W1 : Fin 8 → Fin 64 → EReal) (b1 : Fin 64 → EReal) (W2 : Fin 64 → Fin 64 → EReal)
  (b2 : Fin 64 → EReal) (W3 : Fin 64 → Fin 512 → EReal) (b3 : Fin 512 → EReal)

/-- The blocks hold the weights, transposed; the last one the triangles scaled by the exponentials of the offsets. -/
structure Holds : Prop where
  h1 : ∀ i k, x1 (ix2 i k) = W1 k i
  h2 : ∀ i, x2 (ix2 i 0) = b1 i
  h3 : ∀ i k, x3 (ix2 i k) = W2 k i
  h4 : ∀ i, x4 (ix2 i 0) = b2 i
  h5 : ∀ i k, x5 (ix2 i k) = W3 k i
  h6 : ∀ (t : Fin 8) (i k : Fin 64), x6 (ix2 ⟨64 * t.val + i.val, by omega⟩ k)
    = (if k ≤ i then 1 else 0) * Ideal.exp (b3 ⟨64 * t.val + k.val, by omega⟩)

variable {x0 x1 x2 x3 x4 x5 x6 W1 b1 W2 b2 W3 b3}

/-- The hidden layers. -/
theorem hid_apply (hx : Holds x1 x2 x3 x4 x5 x6 W1 b1 W2 b2 W3 b3) (i : Fin 64) (j : Fin 8192) :
    hid x0 x1 x2 x3 x4 (ix2 i j)
      = layer (layer (fun k : Fin 8 => x0 (ix2 ⟨k.val, by omega⟩ j)) W1 b1) W2 b2 i := by
  unfold hid
  unfold_payloads
  pointwise []
  unfold layer
  simp only [hx.h1, hx.h2, hx.h3, hx.h4, mul_comm]

variable (hx : Holds x1 x2 x3 x4 x5 x6 W1 b1 W2 b2 W3 b3) {j : Fin 8192}
  (g : Good (fun k => x0 (ix2 k j)) W1 b1 W2 b2 W3 b3)

include hx g

/-- One head on one lane. -/
theorem head_apply (t : Fin 8) {o o' : ℕ} (ho : o = 64 * t.val) (ho' : o' = 8 + t.val)
    (hs : S17x8192.Slices ![o', 0] S1x8192)
    (inb : ∀ a, (![o, 0] : Fin 2 → Nat) a + S64x64.size a ≤ S512x64.size a) :
    rowX (extractStridedSlice S1x8192 ![o', 0] (k0_pay1 (View.ld x0 r0_0)) hs)
        (k0_pay23 (hid x0 x1 x2 x3 x4) (View.ld x5 (Rect.unit (s := S512x64) ![o, 0] S64x64.size inb))
          (View.ld x6 (Rect.unit (s := S512x64) ![o, 0] S64x64.size inb))) (ix2 0 j)
      = valX (widths (fun k => x0 (ix2 k j)) W1 b1 W2 b2 W3 b3 t) (x0 (ix2 ⟨8 + t.val, by omega⟩ j)) ∧
    rowJ (extractStridedSlice S1x8192 ![o', 0] (k0_pay1 (View.ld x0 r0_0)) hs)
        (k0_pay23 (hid x0 x1 x2 x3 x4) (View.ld x5 (Rect.unit (s := S512x64) ![o, 0] S64x64.size inb))
          (View.ld x6 (Rect.unit (s := S512x64) ![o, 0] S64x64.size inb))) (ix2 0 j)
      = valJ (widths (fun k => x0 (ix2 k j)) W1 b1 W2 b2 W3 b3 t) (x0 (ix2 ⟨8 + t.val, by omega⟩ j)) := by
  subst ho ho'
  have hy := cut_apply x0 (8 + t.val) hs j (by omega)
  have h5 : ∀ i k : Fin 64, View.ld x5 (Rect.unit (s := S512x64) ![64 * t.val, 0] S64x64.size inb) (ix2 i k)
      = W3 k ⟨64 * t.val + i.val, by omega⟩ := fun i k => by rw [ld_apply x5 _ inb i k (by omega), hx.h5]
  have h6 : ∀ i k : Fin 64, View.ld x6 (Rect.unit (s := S512x64) ![64 * t.val, 0] S64x64.size inb) (ix2 i k)
      = (if k ≤ i then 1 else 0) * Ideal.exp (b3 ⟨64 * t.val + k.val, by omega⟩) := fun i k => by
    rw [ld_apply x6 _ inb i k (by omega), hx.h6]
  rw [← hy]
  refine row_apply _ _ j (g.pos t) (fun k => ?_) ?_
  · rw [sums_apply _ _ _ k j (fun k => b3 ⟨64 * t.val + k.val, by omega⟩) (fun _ => g.c3 _) (fun i => ?_) (fun i k => ?_)
      (h6 k)]
    · simp only [h5, hid_apply hx]; rfl
    · rw [hid_apply hx]; exact g.hidden i
    · rw [h5]; exact g.w3 _ _
  · rw [hy]; exact g.rowLe t

/-- The block's rows on one lane. -/
theorem rows_apply (k : Fin 9) :
    rows x0 x1 x2 x3 x4 x5 x6 (ix2 k j)
      = outRow (fun k => x0 (ix2 k j)) (widths (fun k => x0 (ix2 k j)) W1 b1 W2 b2 W3 b3) k := by
  have key : ∀ (t : Fin 8) {o o' : ℕ} (ho : o = 64 * t.val) (ho' : o' = 8 + t.val)
      (hs : S17x8192.Slices ![o', 0] S1x8192) (inb : ∀ a, (![o, 0] : Fin 2 → Nat) a + S64x64.size a ≤ S512x64.size a),
      View.TileAt (Val := Elt Ideal) (S := S9x8192) (e := .f32) (ix2 k j) ![t.val, 0] S1x8192.size
        (rowX (extractStridedSlice S1x8192 ![o', 0] (k0_pay1 (View.ld x0 r0_0)) hs)
          (k0_pay23 (hid x0 x1 x2 x3 x4) (View.ld x5 (Rect.unit (s := S512x64) ![o, 0] S64x64.size inb))
          (View.ld x6 (Rect.unit (s := S512x64) ![o, 0] S64x64.size inb))))
        (outRow (fun k => x0 (ix2 k j)) (widths (fun k => x0 (ix2 k j)) W1 b1 W2 b2 W3 b3) k) := by
    intro t o o' ho ho' hs inb x hxx
    have h0 : k.val = t.val := by
      have := hxx 0
      have h1 : (x 0).val < 1 := (x 0).isLt
      have h2 : k.val = t.val + (x 0).val := this
      omega
    have h1 : x = ix2 0 j := by
      funext a
      apply Fin.ext
      match a with
      | ⟨0, _⟩ => have h1 : (x 0).val < 1 := (x 0).isLt; show (x 0).val = 0; omega
      | ⟨1, _⟩ => have h1 : j.val = 0 + (x 1).val := hxx 1; show (x 1).val = j.val; omega
    rw [h1, (head_apply hx g t ho ho' hs inb).1, outRow, dif_pos (by omega)]
    simp only [h0]
  unfold rows
  refine View.canon_eq_of_allAt _ _ _ (cover0_7 _ _ _ _ _ _ _ _ _ _) ?_
  refine View.allAt_cons_unit _ _ _ _ _ ?_ ?_
  · intro x hxx
    have h0 : k.val = 8 := by
      have h1 : (x 0).val < 1 := (x 0).isLt
      have h2 : k.val = 8 + (x 0).val := hxx 0
      omega
    have h1 : x = ix2 0 j := by
      funext a
      apply Fin.ext
      match a with
      | ⟨0, _⟩ => have h1 : (x 0).val < 1 := (x 0).isLt; show (x 0).val = 0; omega
      | ⟨1, _⟩ => have h1 : j.val = 0 + (x 1).val := hxx 1; show (x 1).val = j.val; omega
    rw [h1, outRow, dif_neg (by omega), Fin.prod_univ_eight]
    have h16 : k0_pay3 (View.ld x0 r0_0) (ix2 0 j) = x0 (ix2 16 j) :=
      cut_apply x0 16 slices_S17x8192_o16_0_S1x8192 j (by omega)
    show k0_pay3 (View.ld x0 r0_0) (ix2 0 j) * _ * _ * _ * _ * _ * _ * _ * _ = _
    rw [h16, (head_apply hx g 0 (o := 0) (o' := 8) rfl rfl _ _).2, (head_apply hx g 1 (o := 64) (o' := 9) rfl rfl _ _).2, (head_apply hx g 2 (o := 128) (o' := 10) rfl rfl _ _).2,
      (head_apply hx g 3 (o := 192) (o' := 11) rfl rfl _ _).2, (head_apply hx g 4 (o := 256) (o' := 12) rfl rfl _ _).2, (head_apply hx g 5 (o := 320) (o' := 13) rfl rfl _ _).2,
      (head_apply hx g 6 (o := 384) (o' := 14) rfl rfl _ _).2, (head_apply hx g 7 (o := 448) (o' := 15) rfl rfl _ _).2]
    simp only [mul_assoc]
  refine View.allAt_cons_unit _ _ _ _ _ (key 7 rfl rfl _ _) ?_
  refine View.allAt_cons_unit _ _ _ _ _ (key 6 rfl rfl _ _) ?_
  refine View.allAt_cons_unit _ _ _ _ _ (key 5 rfl rfl _ _) ?_
  refine View.allAt_cons_unit _ _ _ _ _ (key 4 rfl rfl _ _) ?_
  refine View.allAt_cons_unit _ _ _ _ _ (key 3 rfl rfl _ _) ?_
  refine View.allAt_cons_unit _ _ _ _ _ (key 2 rfl rfl _ _) ?_
  refine View.allAt_cons_unit _ _ _ _ _ (key 1 rfl rfl _ _) ?_
  refine View.allAt_cons_unit _ _ _ _ _ (key 0 rfl rfl _ _) ?_
  exact View.allAt_nil _ _

end Cert.KernelIdeal.Head
-- ==== Proof.Host.lean ====
module

public import proofs.«01_k».proof.Proof.Block
public import Idealize.ShloMosaic.Lib.Claim
public import Idealize.ShloMosaic.Lib.Pipeline.ValueKit.Geometry

@[expose] public section

set_option maxRecDepth 16384

noncomputable section

/-! # What the launch's lines before the region leave in the windows' arrays -/

namespace Cert.KernelIdeal.Head

open Cert.KernelIdeal Cert.KernelIdeal.Gen Idealize.ShloMosaic Idealize.ShloMosaic.StableHlo Spline

variable (m : (ℓ : Loc nD τ sig) → Buf (Elt Ideal) ℓ) (c : Dev nD)

/-- The seven arguments as launched. -/
abbrev A0 : Vec Ideal S65536x17 .f32 := m ((c.tc : Thread nD τ).loc main_arg0)
abbrev A1 : Vec Ideal S8x64 .f32 := m ((c.tc : Thread nD τ).loc main_arg1)
abbrev A2 : Vec Ideal S64 .f32 := m ((c.tc : Thread nD τ).loc main_arg2)
abbrev A3 : Vec Ideal S64x64 .f32 := m ((c.tc : Thread nD τ).loc main_arg3)
abbrev A4 : Vec Ideal S64 .f32 := m ((c.tc : Thread nD τ).loc main_arg4)
abbrev A5 : Vec Ideal S64x512 .f32 := m ((c.tc : Thread nD τ).loc main_arg5)
abbrev A6 : Vec Ideal S512 .f32 := m ((c.tc : Thread nD τ).loc main_arg6)

theorem v15_eq (i : Fin 17) (j : Fin 65536) : (V m c main_v15 : Vec Ideal S17x65536 .f32) (ix2 i j) = A0 m c (ix2 j i) := by
  have h : (V m c main_v15 : Vec Ideal S17x65536 .f32) = transpose S17x65536 [1, 0] (A0 m c) transposes_S65536x17_S17x65536_1_0 := by
    show StableHlo.after (List.flatten [hostOps0]) _ (Proc.devRef .tc main_v15) = _
    simp only [hostOps0, List.flatten_cons, List.flatten_nil, List.append_nil]
    after_results
  rw [h]
  pointwise []

/-- The triangle of ones, stacked once for each head, its columns scaled by the exponentials of the offsets. -/
def tri (b : FVec Ideal S512 .f32) : FVec Ideal S512x64 .f32 :=
  shapeCast S512x64 (mulf (broadcastInDim S8x64x64 ![0, 1, 2] bcast_S1x64x64_S8x64x64_0_1_2
      (broadcastInDim S1x64x64 ![1, 2] bcast_S64x64_S1x64x64_1_2 (uitofp .f32 (cmpi .sge
        (broadcastInDim S64x64 ![0, 1] bcast_S64x1_S64x64_0_1 (broadcastInDim S64x1 ![0] bcast_S64_S64x1_0 (iotaInDim S64 32 0)))
        (broadcastInDim S64x64 ![0, 1] bcast_S1x64_S64x64_0_1 (broadcastInDim S1x64 ![1] bcast_S64_S1x64_1 (iotaInDim S64 32 0)))))))
      (broadcastInDim S8x64x64 ![0, 1, 2] bcast_S8x1x64_S8x64x64_0_1_2 (shapeCast S8x1x64 (Host.exp b) shapeCasts_S512_S8x1x64)))
    shapeCasts_S8x64x64_S512x64

theorem sge_eq : ∀ i k : Fin 64, IntOp.cmpi .sge (BitVec.ofNat 32 i.val) (BitVec.ofNat 32 k.val) = BitVec.ofBool (decide (k ≤ i)) := by
  decide +kernel

/-- A one-bit comparison result, read as a number, is 1 or 0. -/
theorem uitofp_bit (p : Prop) [Decidable p] :
    FloatOps.uitofp (F := Ideal) .f32 (BitVec.ofBool (decide p)) = if p then (1 : EReal) else 0 := by
  show ((((BitVec.ofBool (decide p)).toNat : ℕ) : ℝ) : EReal) = _
  by_cases h : p
  · simp [h]
  · simp [h]

theorem tri_apply (b : FVec Ideal S512 .f32) (t : Fin 8) (i k : Fin 64) : tri b (ix2 ⟨64 * t.val + i.val, by omega⟩ k)
    = (if k ≤ i then 1 else 0) * Ideal.exp (b (ix1 ⟨64 * t.val + k.val, by omega⟩)) := by
  unfold tri
  pointwise []
  rw [sge_eq, uitofp_bit]
  congr 3
  simp only [Fin.mk.injEq, mul_comm]

theorem v14_eq : (V m c main_v14 : Vec Ideal S512x64 .f32) = tri (A6 m c) := by
  show StableHlo.after (List.flatten [hostOps0]) _ (Proc.devRef .tc main_v14) = _
  simp only [hostOps0, List.flatten_cons, List.flatten_nil, List.append_nil]
  after_results
  rfl

theorem v16_eq (i : Fin 64) (j : Fin 8) : (V m c main_v16 : Vec Ideal S64x8 .f32) (ix2 i j) = A1 m c (ix2 j i) := by
  have h : (V m c main_v16 : Vec Ideal S64x8 .f32) = transpose S64x8 [1, 0] (A1 m c) transposes_S8x64_S64x8_1_0 := by
    show StableHlo.after (List.flatten [hostOps0]) _ (Proc.devRef .tc main_v16) = _
    simp only [hostOps0, List.flatten_cons, List.flatten_nil, List.append_nil]
    after_results
  rw [h]
  pointwise []

theorem v17_eq (i : Fin 64) : (V m c main_v17 : Vec Ideal S64x1 .f32) (ix2 i 0) = A2 m c (ix1 i) := by
  have h : (V m c main_v17 : Vec Ideal S64x1 .f32) = broadcastInDim S64x1 ![0] bcast_S64_S64x1_0 (A2 m c) := by
    show StableHlo.after (List.flatten [hostOps0]) _ (Proc.devRef .tc main_v17) = _
    simp only [hostOps0, List.flatten_cons, List.flatten_nil, List.append_nil]
    after_results
  rw [h]
  pointwise []

theorem v18_eq (i j : Fin 64) : (V m c main_v18 : Vec Ideal S64x64 .f32) (ix2 i j) = A3 m c (ix2 j i) := by
  have h : (V m c main_v18 : Vec Ideal S64x64 .f32) = transpose S64x64 [1, 0] (A3 m c) transposes_S64x64_S64x64_1_0 := by
    show StableHlo.after (List.flatten [hostOps0]) _ (Proc.devRef .tc main_v18) = _
    simp only [hostOps0, List.flatten_cons, List.flatten_nil, List.append_nil]
    after_results
  rw [h]
  pointwise []

theorem v19_eq (i : Fin 64) : (V m c main_v19 : Vec Ideal S64x1 .f32) (ix2 i 0) = A4 m c (ix1 i) := by
  have h : (V m c main_v19 : Vec Ideal S64x1 .f32) = broadcastInDim S64x1 ![0] bcast_S64_S64x1_0 (A4 m c) := by
    show StableHlo.after (List.flatten [hostOps0]) _ (Proc.devRef .tc main_v19) = _
    simp only [hostOps0, List.flatten_cons, List.flatten_nil, List.append_nil]
    after_results
  rw [h]
  pointwise []

theorem v20_eq (i : Fin 512) (j : Fin 64) : (V m c main_v20 : Vec Ideal S512x64 .f32) (ix2 i j) = A5 m c (ix2 j i) := by
  have h : (V m c main_v20 : Vec Ideal S512x64 .f32) = transpose S512x64 [1, 0] (A5 m c) transposes_S64x512_S512x64_1_0 := by
    show StableHlo.after (List.flatten [hostOps0]) _ (Proc.devRef .tc main_v20) = _
    simp only [hostOps0, List.flatten_cons, List.flatten_nil, List.append_nil]
    after_results
  rw [h]
  pointwise []

end Cert.KernelIdeal.Head
-- ==== Proof.Run.lean ====
module

public import proofs.«01_k».proof.Proof.Host

@[expose] public section

set_option maxRecDepth 16384

noncomputable section

/-! # The run of the kernel's program

Its result array, row by row. -/

namespace Cert.KernelIdeal.Head

open Cert.KernelIdeal Cert.KernelIdeal.Gen Idealize.ShloMosaic Idealize.ShloMosaic.StableHlo Spline
open Idealize.ShloMosaic.Pipeline

variable (m : (ℓ : Loc nD τ sig) → Buf (Elt Ideal) ℓ) (c : Dev nD)

/-- One row of the input. -/
def row (r : Fin 65536) (k : Fin 17) : EReal := A0 m c (ix2 r k)

/-- The weights, by their coordinates. -/
def w1 (k : Fin 8) (i : Fin 64) : EReal := A1 m c (ix2 k i)
def c1 (i : Fin 64) : EReal := A2 m c (ix1 i)
def w2 (k i : Fin 64) : EReal := A3 m c (ix2 k i)
def c2 (i : Fin 64) : EReal := A4 m c (ix1 i)
def w3 (k : Fin 64) (i : Fin 512) : EReal := A5 m c (ix2 k i)
def c3 (i : Fin 512) : EReal := A6 m c (ix1 i)

/-- Every row of the input and the weights are as the value claim asks. -/
def AllGood : Prop := ∀ r, Good (row m c r) (w1 m c) (c1 m c) (w2 m c) (c2 m c) (w3 m c) (c3 m c)

/-- The widths on row `r`. -/
abbrev wd (r : Fin 65536) (t : Fin 8) : Fin 64 → EReal :=
  widths (row m c r) (w1 m c) (c1 m c) (w2 m c) (c2 m c) (w3 m c) (c3 m c) t

/-- What the region leaves in its output array. -/
def G : Vec Ideal S9x65536 .f32 := fun y => outRow (row m c (y 1)) (wd m c (y 1)) (y 0)

theorem idx0 : ∀ t : Fin cfg0.N, win0_0.index t = ![0, t.val] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, t.val] := (by decide +kernel : ∀ t : Fin grid0.N, _)

/-- A lane of a block is a row of the input. -/
theorem iblk0 (t : Fin cfg0.N) (i : Fin 17) (j : Fin 8192) (h : t.val * 8192 + j.val < 65536) :
    (iblk m c 0 t : Vec Ideal S17x8192 .f32) (ix2 i j) = row m c ⟨t.val * 8192 + j.val, h⟩ i := by
  unfold row
  rw [← v15_eq]
  show (V m c main_v15 : Vec Ideal S17x65536 .f32) ((win0_0.blk t).view.emb (ix2 i j)) = _
  congr 1
  blk_ext [idx0]

theorem iblk1 (t : Fin cfg0.N) : (iblk m c 1 t : Vec Ideal S64x8 .f32) = V m c main_v16 := by
  funext y
  show (V m c main_v16 : Vec Ideal S64x8 .f32) ((win0_1.blk t).view.emb y) = _
  congr 1
  blk_ext [idx1]
theorem iblk2 (t : Fin cfg0.N) : (iblk m c 2 t : Vec Ideal S64x1 .f32) = V m c main_v17 := by
  funext y
  show (V m c main_v17 : Vec Ideal S64x1 .f32) ((win0_2.blk t).view.emb y) = _
  congr 1
  blk_ext [idx2]
theorem iblk3 (t : Fin cfg0.N) : (iblk m c 3 t : Vec Ideal S64x64 .f32) = V m c main_v18 := by
  funext y
  show (V m c main_v18 : Vec Ideal S64x64 .f32) ((win0_3.blk t).view.emb y) = _
  congr 1
  blk_ext [idx3]
theorem iblk4 (t : Fin cfg0.N) : (iblk m c 4 t : Vec Ideal S64x1 .f32) = V m c main_v19 := by
  funext y
  show (V m c main_v19 : Vec Ideal S64x1 .f32) ((win0_4.blk t).view.emb y) = _
  congr 1
  blk_ext [idx4]
theorem iblk5 (t : Fin cfg0.N) : (iblk m c 5 t : Vec Ideal S512x64 .f32) = V m c main_v20 := by
  funext y
  show (V m c main_v20 : Vec Ideal S512x64 .f32) ((win0_5.blk t).view.emb y) = _
  congr 1
  blk_ext [idx5]
theorem iblk6 (t : Fin cfg0.N) : (iblk m c 6 t : Vec Ideal S512x64 .f32) = V m c main_v14 := by
  funext y
  show (V m c main_v14 : Vec Ideal S512x64 .f32) ((win0_6.blk t).view.emb y) = _
  congr 1
  blk_ext [idx6]

/-- The blocks of the weights are the whole arrays. -/
theorem holds (t : Fin cfg0.N) : Holds (iblk m c 1 t) (iblk m c 2 t) (iblk m c 3 t) (iblk m c 4 t) (iblk m c 5 t)
    (iblk m c 6 t) (w1 m c) (c1 m c) (w2 m c) (c2 m c) (w3 m c) (c3 m c) where
  h1 i k := by rw [iblk1]; exact v16_eq m c i k
  h2 i := by rw [iblk2]; exact v17_eq m c i
  h3 i k := by rw [iblk3]; exact v18_eq m c i k
  h4 i := by rw [iblk4]; exact v19_eq m c i
  h5 i k := by rw [iblk5]; exact v20_eq m c i k
  h6 u i k := by rw [iblk6, v14_eq]; exact tri_apply _ u i k

/-- The output array after the region. -/
theorem out_arr (g : AllGood m c) : (dats m 0 c).arrAt 7 cfg0.N = G m c := by
  refine (dats m 0 c).arrAt_eq_of_covers 7 _ (by decide +kernel) fun t hf y => ?_
  blk_simp
  rw [after0_7, out_eq]
  have ht : t.val < 8 := t.isLt
  obtain ⟨k, j, rfl⟩ : ∃ (k : Fin 9) (j : Fin 8192), y = ix2 k j :=
    ⟨y 0, y 1, by funext a; match a with | ⟨0, _⟩ => rfl | ⟨1, _⟩ => rfl⟩
  have hb : t.val * 8192 + j.val < 65536 := by omega
  have he : (win0_7.blk t).view.emb (ix2 k j) = ix2 k (⟨t.val * 8192 + j.val, hb⟩ : Fin 65536) := by
    blk_ext [idx7]
  have hrow : (fun k => (iblk m c 0 t : Vec Ideal S17x8192 .f32) (ix2 k j)) = row m c ⟨t.val * 8192 + j.val, hb⟩ :=
    funext fun i => iblk0 m c t i j hb
  have g' := g ⟨t.val * 8192 + j.val, hb⟩
  rw [← hrow] at g'
  rw [he]
  refine (rows_apply (holds m c t) g' k).trans ?_
  show _ = outRow (row m c ⟨t.val * 8192 + j.val, hb⟩) (wd m c ⟨t.val * 8192 + j.val, hb⟩) k
  simp only [hrow]

/-- The result array, from the input and the region's output array. -/
def out (x : FVec Ideal S65536x17 .f32) (q : FVec Ideal S9x65536 .f32) : FVec Ideal S65536x17 .f32 :=
  concatenate S65536x17 1 [⟨S65536x8, extractStridedSlice S65536x8 ![0, 0] x slices_S65536x17_S65536x8_0_0⟩,
    ⟨S65536x9, transpose S65536x9 [1, 0] q transposes_S9x65536_S65536x9_1_0⟩] concatenates_S65536x8_S65536x9_S65536x17_d1

theorem out_apply (x : FVec Ideal S65536x17 .f32) (q : FVec Ideal S9x65536 .f32) (r : Fin 65536) (k : Fin 17) :
    out x q (ix2 r k) = if h : k.val < 8 then x (ix2 r k) else q (ix2 ⟨k.val - 8, by omega⟩ r) := by
  unfold out
  pointwise []

/-- What the lines after the region leave in the result array. -/
theorem tail_eq : Pipeline.afterTail₀ cfgs (dats m) 0 (V0 m) [hostOps1] c main_v24
    = out (A0 m c) ((dats m 0 c).arrAt 7 cfg0.N) := by
  unfold Pipeline.afterTail₀
  simp only [hostOps1, List.flatten_cons, List.flatten_nil, List.append_nil]
  after_results
  have h0 : withArrays (cfgs 0).spec c (V0 m c) (fun w => (dats m 0 c).arrAt w (cfgs 0).N) (Proc.devRef .tc main_arg0) = A0 m c :=
    (withArrays_of_ne _ c (V0 m c) _ main_arg0 (by exact (by decide : ∀ w, arrRef spec0 w ≠ main_arg0))).trans (V_main_arg0 m c)
  have h21 : withArrays (cfgs 0).spec c (V0 m c) (fun w => (dats m 0 c).arrAt w (cfgs 0).N) (Proc.devRef .tc main_v21)
      = (dats m 0 c).arrAt 7 cfg0.N :=
    withArrays_arr spec0 (by decide) c (V0 m c) _ 7
  unfold out
  rw [h0, h21]

/-- The program's run: the result array ends holding, at every row, the row's first eight entries, the eight inverse maps'
    values and the last entry times their derivatives. -/
theorem run (m : (ℓ : Loc nD τ sig) → Buf (Elt Ideal) ℓ) (ρ : Dev nD → PrngReg) (g : ∀ c, AllGood m c) :
    θ_run defs (onTc (τ := τ) (main (F := Ideal))) ⟨m, fun _ => 0, ρ⟩ (fun r => ∀ c : Dev nD,
      (r.2.mem ((c.tc : Thread nD τ).loc main_v24) : Vec Ideal S65536x17 .f32)
        = fun i => result (row m c) (w1 m c) (c1 m c) (w2 m c) (c2 m c) (w3 m c) (c3 m c) (i 0) (i 1)) := by
  refine (θ_run defs _ _).mono (fun r h c => ?_) (run_main m ρ)
  refine ((h c).2 main_v24 (mem_restRefs_of main_v24 (by decide) (by decide))).trans ?_
  rw [tail_eq, out_arr m c (g c)]
  funext i
  obtain ⟨a, b, rfl⟩ : ∃ (a : Fin 65536) (b : Fin 17), i = ix2 a b :=
    ⟨i 0, i 1, by funext a; match a with | ⟨0, _⟩ => rfl | ⟨1, _⟩ => rfl⟩
  rw [out_apply]
  rfl

end Cert.KernelIdeal.Head
-- ==== Proof.RefOps.lean ====
module

public import proofs.«01_k».proof.Proof.Spec
public import Idealize.ShloMosaic.Lib.Pointwise
public import Idealize.ShloMosaic.Lib.IndicatorCount
public import Idealize.ShloMosaic.Lib.ShapeFacts

@[expose] public section

set_option maxRecDepth 16384

noncomputable section

/-! # Three host operations read at one element

The running sum along the last axis, the count of the ones along the last axis, and the batched look-up along the last
axis. -/

namespace Spline

open Idealize.ShloMosaic

section Window

variable {A B : ℕ}

/-- The positions of a window that is as long as the last axis and one wide along the others. -/
def posEquiv : (⟨3, ![1, 1, 64]⟩ : Shape).Idx ≃ Fin 64 where
  toFun w := w 2
  invFun k := ix3 0 0 k
  left_inv w := by
    funext a
    match a with
    | ⟨0, _⟩ => exact Subsingleton.elim (α := Fin 1) _ _
    | ⟨1, _⟩ => exact Subsingleton.elim (α := Fin 1) _ _
    | ⟨2, _⟩ => rfl
  right_inv _ := rfl

/-- The position in the window that lies on element `x` when the window ends at element `i`, wrapped around. -/
def turn (i : Fin 64) : Fin 64 ≃ Fin 64 where
  toFun x := ⟨(x.val + 63 - i.val) % 64, by omega⟩
  invFun k := ⟨(k.val + i.val + 1) % 64, by omega⟩
  left_inv x := Fin.ext (by show ((x.val + 63 - i.val) % 64 + i.val + 1) % 64 = x.val; omega)
  right_inv k := Fin.ext (by show ((k.val + i.val + 1) % 64 + 63 - i.val) % 64 = k.val; omega)

/-- The position in the window at a place in its row-major order. -/
abbrev place (n : Fin (⟨3, ![1, 1, 64]⟩ : Shape).numel) : (⟨3, ![1, 1, 64]⟩ : Shape).Idx := (Shape.rowMajor _).symm n

/-- The window sum, padded below by one less than the axis is long, is the sum of the elements up to the index. -/
theorem window_apply (x : FVec Ideal (⟨3, ![A, B, 64]⟩ : Shape) .f32) (init : FVec Ideal (⟨0, ![]⟩ : Shape) .f32)
    (h : (⟨3, ![A, B, 64]⟩ : Shape).ReduceWindows (![1, 1, 64] : Fin 3 → ℕ) ![1, 1, 1] ![0, 0, 63] ![0, 0, 0]
      ⟨3, ![A, B, 64]⟩)
    (hu : 0 < (⟨0, ![]⟩ : Shape).numel) (hi : ∀ i, init i = 0) (r : Fin A) (t : Fin B) (i : Fin 64) :
    Host.reduceWindowAdd ![1, 1, 64] ![1, 1, 1] ![0, 0, 63] ![0, 0, 0] x init h hu (ix3 r t i)
      = ∑ k : Fin 64, if k ≤ i then x (ix3 r t k) else (0 : EReal) := by
  show Host.reduceWindow (fun a b : EReal => a + b) ![1, 1, 64] ![1, 1, 1] ![0, 0, 63] ![0, 0, 0] x
    (fun _ : (⟨0, ![]⟩ : Shape).Idx => init (Shape.Idx.first hu)) h hu (ix3 r t i) = _
  unfold Host.reduceWindow
  simp only [hi]
  rw [← List.foldl_map (f := fun n => _) (g := fun a b : EReal => a + b), ← List.sum_eq_foldl, ← Fin.sum_univ_def]
  refine Fintype.sum_equiv (((Shape.rowMajor _).symm.trans posEquiv).trans (turn i).symm) _ _ fun n => ?_
  have h0 : (place n 0).val = 0 := by have h : (place n 0).val < 1 := (place n 0).isLt; omega
  have h1 : (place n 1).val = 0 := by have h : (place n 1).val < 1 := (place n 1).isLt; omega
  have h2 : (place n 2).val < 64 := (place n 2).isLt
  have he : ((((Shape.rowMajor _).symm.trans posEquiv).trans (turn i).symm) n).val = ((place n 2).val + i.val + 1) % 64 := by
    rfl
  generalize (((Shape.rowMajor _).symm.trans posEquiv).trans (turn i).symm) n = k at he ⊢
  have hi := i.isLt
  split
  · next hin =>
    have hin2 : 63 ≤ i.val * 1 + (place n 2).val ∧ i.val * 1 + (place n 2).val - 63 < 64 := hin 2
    rw [if_pos (Fin.le_def.2 (by omega))]
    refine congrArg x (funext fun a => Fin.ext ?_)
    match a with
    | ⟨0, _⟩ => show r.val * 1 + (place n 0).val - 0 = r.val; omega
    | ⟨1, _⟩ => show t.val * 1 + (place n 1).val - 0 = t.val; omega
    | ⟨2, _⟩ => show i.val * 1 + (place n 2).val - 63 = k.val; omega
  · next hin =>
    rw [if_neg]
    intro hk
    have hk' := Fin.le_def.1 hk
    refine hin fun a => ?_
    match a with
    | ⟨0, _⟩ =>
      show 0 ≤ r.val * 1 + (place n 0).val ∧ r.val * 1 + (place n 0).val - 0 < A
      have := r.isLt
      omega
    | ⟨1, _⟩ =>
      show 0 ≤ t.val * 1 + (place n 1).val ∧ t.val * 1 + (place n 1).val - 0 < B
      have := t.isLt
      omega
    | ⟨2, _⟩ =>
      show 63 ≤ i.val * 1 + (place n 2).val ∧ i.val * 1 + (place n 2).val - 63 < 64
      omega

end Window

/-- The count of the ones along the last axis. -/
theorem count_apply {A B : ℕ} (x : IVec (⟨3, ![A, B, 64]⟩ : Shape) 32) (init : IVec (⟨0, ![]⟩ : Shape) 32)
    (h : (⟨3, ![A, B, 64]⟩ : Shape).ReducesTo [2] ⟨2, ![A, B]⟩) (hu : 0 < (⟨0, ![]⟩ : Shape).numel)
    (hi : ∀ i, init i = 0#32) (r : Fin A) (t : Fin B) (p : Fin 64 → BitVec 1)
    (hx : ∀ k, x (ix3 r t k) = (p k).setWidth 32) :
    Host.reduce IntOp.addi x init h hu (ix2 r t)
      = BitVec.ofNat 32 (Finset.univ.filter fun k => p k = 1#1).card := by
  pointwise []
  rw [hi, ← IndicatorCount.fold_addi_setWidth_eq_card]
  exact Finset.fold_congr fun k _ => hx k

section Look

/-- The dimension numbers of a look-up along the last of three axes, one start index for each pair of the others. -/
abbrev lookDims (A B N : ℕ) (wf : GatherDims.WF ⟨3, ![A, B, N]⟩ ⟨4, ![A, B, 1, 1]⟩ ⟨3, ![A, B, 1]⟩ [] [2] [0, 1] [2] [0, 1] 3 ![1, 1, 1]) :
    GatherDims ⟨3, ![A, B, N]⟩ ⟨4, ![A, B, 1, 1]⟩ ⟨3, ![A, B, 1]⟩ where
  offsetDims := []
  collapsedSliceDims := [2]
  operandBatchingDims := [0, 1]
  startIndicesBatchingDims := [0, 1]
  startIndexMap := [2]
  indexVectorDim := 3
  sliceSizes := ![1, 1, 1]
  wf := wf

/-- The look-up reads the element at the start index, when that is in range. -/
theorem look_apply {α : Type} {A B N : ℕ}
    (wf : GatherDims.WF ⟨3, ![A, B, N]⟩ ⟨4, ![A, B, 1, 1]⟩ ⟨3, ![A, B, 1]⟩ [] [2] [0, 1] [2] [0, 1] 3 ![1, 1, 1])
    (x : (⟨3, ![A, B, N]⟩ : Shape).Idx → α) (idx : IVec ⟨4, ![A, B, 1, 1]⟩ 32) (r : Fin A) (t : Fin B) (n : ℕ)
    (hn : n < N) (hn' : n < 2 ^ 31) (hidx : idx (ix4 r t 0 0) = BitVec.ofNat 32 n) :
    Host.gather (lookDims A B N wf) x idx (ix3 r t 0) = x (ix3 r t ⟨n, hn⟩) := by
  have hs : (idx (ix4 r t 0 0)).toInt.toNat = n := by
    have hv : (BitVec.ofNat 32 n).toNat = n := by rw [BitVec.toNat_ofNat, Nat.mod_eq_of_lt (by omega)]
    rw [hidx, BitVec.toInt_eq_toNat_of_lt (by rw [hv]; omega), hv, Int.toNat_natCast]
  refine congrArg x (funext fun a => Fin.ext ?_)
  show (lookDims A B N wf).start (ix3 r t 0) idx a + (lookDims A B N wf).batchCoord (ix3 r t 0) a
    + (lookDims A B N wf).offCoord (ix3 r t 0) a = _
  match a with
  | ⟨0, _⟩ =>
    rw [GatherDims.start_batching _ _ _ _ (by simp),
      GatherDims.offCoord_eq_zero _ _ _ (fun h => ((GatherDims.mem_sKept _ _).1 h).2 (by simp))]
    unfold GatherDims.batchCoord
    rw [dif_pos (by simp), Nat.zero_add, Nat.add_zero]
    rfl
  | ⟨1, _⟩ =>
    rw [GatherDims.start_batching _ _ _ _ (by simp),
      GatherDims.offCoord_eq_zero _ _ _ (fun h => ((GatherDims.mem_sKept _ _).1 h).2 (by simp))]
    unfold GatherDims.batchCoord
    rw [dif_pos (by simp), Nat.zero_add, Nat.add_zero]
    rfl
  | ⟨2, _⟩ =>
    rw [GatherDims.batchCoord_eq_zero _ _ _ (by simp),
      GatherDims.offCoord_eq_zero _ _ _ (fun h => ((GatherDims.mem_sKept _ _).1 h).1 (by simp))]
    unfold GatherDims.start
    rw [dif_pos (by simp)]
    simp only [Nat.add_zero]
    have hsi : ∀ c, (lookDims A B N wf).siIdx (ix3 r t 0) c = ix4 r t 0 0 := by
      intro c
      funext b
      match b with
      | ⟨0, _⟩ => rfl
      | ⟨1, _⟩ => rfl
      | ⟨2, _⟩ => rfl
      | ⟨3, _⟩ => exact Subsingleton.elim (α := Fin 1) _ _
    rw [hsi, hs]
    show min n (N - 1) = n
    omega

end Look

end Spline
-- ==== Proof.RefMath.lean ====
module

public import proofs.«01_k».proof.Proof.RefOps

@[expose] public section

noncomputable section

/-! # The reference's way to the inverse map

The reference divides the running sums by the total before it compares them, and divides by the slope of the bin. -/

namespace Spline

open Idealize.ShloMosaic

variable {e : Fin 64 → EReal} {y : EReal}

/-- A value at most 1 is a real number or minus infinity. -/
theorem le_one_cases (hy : y ≤ 1) : y = ⊥ ∨ ∃ r : ℝ, y = r := by
  induction y using EReal.rec with
  | bot => exact Or.inl rfl
  | coe r => exact Or.inr ⟨r, rfl⟩
  | top => exact absurd hy (not_le.2 (EReal.coe_lt_top 1))

/-- The quotient of two reals, the second not zero. -/
theorem div_real {a b : ℝ} (hb : b ≠ 0) : Ideal.div (a : EReal) (b : EReal) = ((a / b : ℝ) : EReal) := by
  rw [Ideal.div_coe hb, ← EReal.coe_mul, mul_one_div]

/-- A quotient by a positive number lies below a value just when the dividend lies below the product. -/
theorem div_lt_iff_real {a b : ℝ} (hb : 0 < b) (hy : y ≤ 1) :
    ((a / b : ℝ) : EReal) < y ↔ (a : EReal) < y * (b : EReal) := by
  rcases le_one_cases hy with rfl | ⟨r, rfl⟩
  · rw [EReal.bot_mul_coe_of_pos hb]
    simp
  · rw [← EReal.coe_mul, EReal.coe_lt_coe_iff, EReal.coe_lt_coe_iff, div_lt_iff₀ hb]

/-- The number of quotients of running sums by the total that lie below `y` is `y`'s bin. -/
theorem card_eq (he : Pos e) (hy : y ≤ 1) :
    (Finset.univ.filter fun k : Fin 64 =>
      BitVec.ofBool (decide (((P e (k.val + 1) / P e 64 : ℝ) : EReal) < y)) = 1#1).card = bin e y := by
  have hb := bin_le he hy
  rw [Finset.filter_congr (q := fun k : Fin 64 => k.val < bin e y) fun k _ => ?_]
  · rw [Fin.card_filter_val_lt]
    omega
  · rw [← lt_iff he k.isLt, ← div_lt_iff_real (P_pos he 64 (by omega)) hy]
    by_cases h : ((P e (k.val + 1) / P e 64 : ℝ) : EReal) < y <;> simp [h]

/-- The slope of the bin. -/
theorem slope_eq (he : Pos e) (n : ℕ) :
    Ideal.div ((wid e n : ℝ) : EReal) (Ideal.div ((P e 64 : ℝ) : EReal) ((64 : ℝ) : EReal))
      = ((wid e n * 64 / P e 64 : ℝ) : EReal) := by
  have hN := P_pos he 64 (by omega)
  rw [div_real (by norm_num), div_real (by positivity)]
  congr 1
  field_simp

/-- The value by way of the quotients. -/
theorem ref_valX (he : Pos e) (hy : y ≤ 1) :
    Ideal.div (y - ((P e (bin e y) / P e 64 : ℝ) : EReal)) ((wid e (bin e y) * 64 / P e 64 : ℝ) : EReal)
      + Ideal.div (((bin e y : ℕ) : ℝ) : EReal) ((64 : ℝ) : EReal) = valX e y := by
  have hN := P_pos he 64 (by omega)
  have hw := wid_pos he (bin e y)
  unfold valX
  rw [div_real (by norm_num), Ideal.div_coe (by positivity)]
  congr 1
  generalize bin e y = b at *
  rcases le_one_cases hy with rfl | ⟨r, rfl⟩
  · rw [EReal.bot_mul_coe_of_pos hN, EReal.bot_sub, EReal.bot_sub, EReal.bot_mul_coe_of_pos (by positivity),
      EReal.bot_mul_coe_of_pos (by positivity)]
  · rw [← EReal.coe_mul, ← EReal.coe_sub, ← EReal.coe_sub, ← EReal.coe_mul, ← EReal.coe_mul]
    congr 1
    field_simp

/-- The derivative by way of the slope. -/
theorem ref_valJ (he : Pos e) :
    Ideal.div 1 ((wid e (bin e y) * 64 / P e 64 : ℝ) : EReal) = valJ e y := by
  have hN := P_pos he 64 (by omega)
  have hw := wid_pos he (bin e y)
  unfold valJ
  rw [← EReal.coe_one, div_real (by positivity)]
  congr 1
  field_simp

end Spline
-- ==== Proof.Ref.lean ====
module

public import proofs.«01_k».proof.Proof.RefMath
public import proofs.«01_k».proof.Proof.Gen.ReferenceIdeal.Read

@[expose] public section

set_option maxRecDepth 16384

noncomputable section

/-! # The reference, read row by row -/

namespace Cert.ReferenceIdeal.Rows

open Cert.ReferenceIdeal Cert.ReferenceIdeal.Gen Cert.ReferenceIdeal.Read Idealize.ShloMosaic Spline

variable (x0 : Vec Ideal S65536x17 .f32) (x1 : Vec Ideal S8x64 .f32) (x2 : Vec Ideal S64 .f32) (x3 : Vec Ideal S64x64 .f32)
  (x4 : Vec Ideal S64 .f32) (x5 : Vec Ideal S64x512 .f32) (x6 : Vec Ideal S512 .f32)

/-- The first hidden layer. -/
theorem v9_apply (r : Fin 65536) (i : Fin 64) :
    val_main_v9 (F := Ideal) x0 x1 x2 (ix2 r i)
      = layer (fun k : Fin 8 => x0 (ix2 r ⟨k.val, by omega⟩)) (fun k i => x1 (ix2 k i)) (fun i => x2 (ix1 i)) i := by
  unfold val_main_v9 val_main_v8 val_main_v7 val_main_v6 val_main_v5 val_main_v0 val_main_call0_v0 val_main_call0_cst layer
  pointwise []

/-- The second hidden layer. -/
theorem v14_apply (r : Fin 65536) (i : Fin 64) :
    val_main_v14 (F := Ideal) x0 x1 x2 x3 x4 (ix2 r i)
      = layer (fun k => val_main_v9 (F := Ideal) x0 x1 x2 (ix2 r k)) (fun k i => x3 (ix2 k i)) (fun i => x4 (ix1 i)) i := by
  unfold val_main_v14 val_main_v13 val_main_v12 val_main_v11 val_main_v10 val_main_call1_v0 val_main_call1_cst layer
  pointwise []

/-- The widths of the eight heads of a row. -/
abbrev E (r : Fin 65536) (t : Fin 8) : Fin 64 → EReal :=
  widths (fun k => x0 (ix2 r k)) (fun k i => x1 (ix2 k i)) (fun i => x2 (ix1 i)) (fun k i => x3 (ix2 k i))
    (fun i => x4 (ix1 i)) (fun k i => x5 (ix2 k i)) (fun i => x6 (ix1 i)) t

/-- The coordinate that a head's inverse map is taken at. -/
abbrev yB (r : Fin 65536) (t : Fin 8) : EReal := x0 (ix2 r ⟨8 + t.val, by omega⟩)

/-- The exponentials of the logits are the widths. -/
theorem v20_apply (r : Fin 65536) (t : Fin 8) (k : Fin 64) :
    val_main_v20 (F := Ideal) x0 x1 x2 x3 x4 x5 x6 (ix3 r t k) = E x0 x1 x2 x3 x4 x5 x6 r t k := by
  have hh : layer (layer (fun k : Fin 8 => x0 (ix2 r ⟨k.val, by omega⟩)) (fun k i => x1 (ix2 k i)) (fun i => x2 (ix1 i)))
      (fun k i => x3 (ix2 k i)) (fun i => x4 (ix1 i)) = fun k => val_main_v14 (F := Ideal) x0 x1 x2 x3 x4 (ix2 r k) := by
    funext i
    rw [v14_apply]
    exact congrArg (layer · _ _ i) (funext fun k => (v9_apply x0 x1 x2 r k).symm)
  unfold E widths wids
  rw [hh]
  unfold val_main_v20 val_main_v19 val_main_v18 val_main_v17 val_main_v16 val_main_v15
  pointwise []
  simp only [Nat.mul_comm t.val 64]

variable {x0 x1 x2 x3 x4 x5 x6} {r : Fin 65536} {t : Fin 8}

/-- The running sums. -/
theorem v21_apply (he : Pos (E x0 x1 x2 x3 x4 x5 x6 r t)) (k : Fin 64) :
    val_main_v21 (F := Ideal) x0 x1 x2 x3 x4 x5 x6 (ix3 r t k) = ((P (E x0 x1 x2 x3 x4 x5 x6 r t) (k.val + 1) : ℝ) : EReal) := by
  unfold val_main_v21
  rw [window_apply _ _ _ _ (fun i => by
    unfold val_main_call2_call0_v0 val_main_call2_call0_cst
    pointwise []) r t k, ← sum_le_eq he k]
  simp only [v20_apply]

/-- The total. -/
theorem v24_apply (he : Pos (E x0 x1 x2 x3 x4 x5 x6 r t)) :
    val_main_v24 (F := Ideal) x0 x1 x2 x3 x4 x5 x6 (ix3 r t 0) = ((P (E x0 x1 x2 x3 x4 x5 x6 r t) 64 : ℝ) : EReal) := by
  refine Eq.trans ?_ (v21_apply he 63)
  unfold val_main_v24 val_main_v23 val_main_v22
  pointwise []

/-- The running sums over the total. -/
theorem v30_apply (he : Pos (E x0 x1 x2 x3 x4 x5 x6 r t)) (k : Fin 64) :
    val_main_v30 (F := Ideal) x0 x1 x2 x3 x4 x5 x6 (ix3 r t k)
      = ((P (E x0 x1 x2 x3 x4 x5 x6 r t) (k.val + 1) / P (E x0 x1 x2 x3 x4 x5 x6 r t) 64 : ℝ) : EReal) := by
  rw [← div_real (P_pos he 64 (by omega)).ne', ← v21_apply he k, ← v24_apply he]
  unfold val_main_v30 val_main_v29
  pointwise []

/-- The slopes of the bins. -/
theorem v28_apply (he : Pos (E x0 x1 x2 x3 x4 x5 x6 r t)) (k : Fin 64) :
    val_main_v28 (F := Ideal) x0 x1 x2 x3 x4 x5 x6 (ix3 r t k)
      = ((wid (E x0 x1 x2 x3 x4 x5 x6 r t) k.val * 64 / P (E x0 x1 x2 x3 x4 x5 x6 r t) 64 : ℝ) : EReal) := by
  rw [← slope_eq he, coe_wid he, ← v20_apply, ← v24_apply he]
  unfold val_main_v28 val_main_v27 val_main_v26 val_main_v25 val_main_cst
  pointwise []
  rw [ofBits_64]

/-- The bin. -/
theorem v35_apply (he : Pos (E x0 x1 x2 x3 x4 x5 x6 r t)) (hy : yB x0 r t ≤ 1) :
    val_main_v35 (F := Ideal) x0 x1 x2 x3 x4 x5 x6 (ix2 r t)
      = BitVec.ofNat 32 (bin (E x0 x1 x2 x3 x4 x5 x6 r t) (yB x0 r t)) := by
  unfold val_main_v35
  rw [← card_eq he hy]
  refine count_apply _ _ _ _ (fun _ => rfl) r t _ fun k => ?_
  rw [← v30_apply he k]
  unfold val_main_v34 val_main_v33 val_main_v32 val_main_v31 val_main_v1
  pointwise []

/-- The running sums over the total, from 0 on. -/
theorem v37_apply (he : Pos (E x0 x1 x2 x3 x4 x5 x6 r t)) (n : ℕ) (hn : n < 65) :
    val_main_v37 (F := Ideal) x0 x1 x2 x3 x4 x5 x6 (ix3 r t ⟨n, hn⟩)
      = ((P (E x0 x1 x2 x3 x4 x5 x6 r t) n / P (E x0 x1 x2 x3 x4 x5 x6 r t) 64 : ℝ) : EReal) := by
  unfold val_main_v37 val_main_call3_v0 val_main_c_0
  pointwise []
  by_cases h : 1 ≤ n
  · rw [dif_pos ⟨h, by omega⟩, v30_apply he]
    simp only [Nat.sub_add_cancel h]
  · obtain rfl : n = 0 := by omega
    rw [dif_neg (by omega), P_zero, zero_div]
    show (((0#32).toInt : ℝ) : EReal) = _
    simp

/-- Words up to 63 are their own normalised index. -/
theorem word_eq (c : BitVec 32) (n : Fin 64) :
    Scalar.select (IntOp.cmpi .slt (BitVec.ofNat 32 n.val) 0#32) (IntOp.addi (BitVec.ofNat 32 n.val) c) (BitVec.ofNat 32 n.val)
      = BitVec.ofNat 32 n.val := by
  have h : ∀ n : Fin 64, IntOp.cmpi .slt (BitVec.ofNat 32 n.val) 0#32 = 0#1 := by decide +kernel
  rw [h]
  rfl

/-- Words up to 63 lie in both tables. -/
theorem mask_eq : ∀ n : Fin 64, IntOp.andi (IntOp.andi (IntOp.cmpi .sge (BitVec.ofNat 32 n.val) 0#32)
    (IntOp.cmpi .sle (BitVec.ofNat 32 n.val) 64#32)) 1#1 = 1#1 ∧
    IntOp.andi (IntOp.andi (IntOp.cmpi .sge (BitVec.ofNat 32 n.val) 0#32)
    (IntOp.cmpi .sle (BitVec.ofNat 32 n.val) 63#32)) 1#1 = 1#1 := by decide +kernel

/-- The start index of the first look-up. -/
theorem c4v5_apply (he : Pos (E x0 x1 x2 x3 x4 x5 x6 r t)) (hy : yB x0 r t ≤ 1) :
    val_main_call4_v5 (F := Ideal) x0 x1 x2 x3 x4 x5 x6 (ix4 r t 0 0)
      = BitVec.ofNat 32 (bin (E x0 x1 x2 x3 x4 x5 x6 r t) (yB x0 r t)) := by
  have hb := bin_le he hy
  rw [← word_eq 65#32 ⟨_, Nat.lt_succ_of_le hb⟩]
  simp only [← v35_apply he hy]
  unfold val_main_call4_v5 val_main_call4_v4 val_main_call4_v3 val_main_call4_v2 val_main_call4_v1 val_main_call4_v0 val_main_call4_c val_main_call4_c_0 val_main_v36
  pointwise []

/-- The fold over one element. -/
theorem fold_one (f : Fin 1 → BitVec 1) (h : IntOp.andi (f 0) 1#1 = 1#1) : Finset.univ.fold IntOp.andi 1#1 f = 1#1 := by
  rw [show (Finset.univ : Finset (Fin 1)) = {0} from rfl, Finset.fold_singleton, h]

/-- The first look-up is in range. -/
theorem c4v12_apply (he : Pos (E x0 x1 x2 x3 x4 x5 x6 r t)) (hy : yB x0 r t ≤ 1) :
    val_main_call4_v12 (F := Ideal) x0 x1 x2 x3 x4 x5 x6 (ix3 r t 0) = 1#1 := by
  have hb := bin_le he hy
  unfold val_main_call4_v12 val_main_call4_v11 val_main_call4_v10 val_main_call4_v9 val_main_call4_v8 val_main_call4_v7 val_main_call4_v6 val_main_call4_c_1 val_main_call4_c_2 val_main_call4_c_3
  pointwise []
  refine fold_one _ ?_
  simp only [c4v5_apply he hy]
  exact (mask_eq ⟨_, Nat.lt_succ_of_le hb⟩).1

/-- The running sum below the bin, over the total. -/
theorem v39_apply (he : Pos (E x0 x1 x2 x3 x4 x5 x6 r t)) (hy : yB x0 r t ≤ 1) :
    val_main_v39 (F := Ideal) x0 x1 x2 x3 x4 x5 x6 (ix2 r t)
      = ((P (E x0 x1 x2 x3 x4 x5 x6 r t) (bin (E x0 x1 x2 x3 x4 x5 x6 r t) (yB x0 r t))
        / P (E x0 x1 x2 x3 x4 x5 x6 r t) 64 : ℝ) : EReal) := by
  have hb := bin_le he hy
  rw [← v37_apply he _ (by omega), ← look_apply (A := 65536) (B := 8) (N := 65) gather_S65536x8x65_S65536x8x1x1_S65536x8x1_n_2_01_01_2_3_111_wf
    (val_main_v37 (F := Ideal) x0 x1 x2 x3 x4 x5 x6) _ r t _ (by omega) (by omega) (c4v5_apply he hy)]
  unfold val_main_v39 val_main_v38
  pointwise []
  rw [c4v12_apply he hy]
  rfl

/-- The start index of the second look-up. -/
theorem c5v5_apply (he : Pos (E x0 x1 x2 x3 x4 x5 x6 r t)) (hy : yB x0 r t ≤ 1) :
    val_main_call5_v5 (F := Ideal) x0 x1 x2 x3 x4 x5 x6 (ix4 r t 0 0)
      = BitVec.ofNat 32 (bin (E x0 x1 x2 x3 x4 x5 x6 r t) (yB x0 r t)) := by
  have hb := bin_le he hy
  rw [← word_eq 64#32 ⟨_, Nat.lt_succ_of_le hb⟩]
  simp only [← v35_apply he hy]
  unfold val_main_call5_v5 val_main_call5_v4 val_main_call5_v3 val_main_call5_v2 val_main_call5_v1 val_main_call5_v0 val_main_call5_c val_main_call5_c_0 val_main_v36
  pointwise []

/-- The second look-up is in range. -/
theorem c5v12_apply (he : Pos (E x0 x1 x2 x3 x4 x5 x6 r t)) (hy : yB x0 r t ≤ 1) :
    val_main_call5_v12 (F := Ideal) x0 x1 x2 x3 x4 x5 x6 (ix3 r t 0) = 1#1 := by
  have hb := bin_le he hy
  unfold val_main_call5_v12 val_main_call5_v11 val_main_call5_v10 val_main_call5_v9 val_main_call5_v8 val_main_call5_v7 val_main_call5_v6 val_main_call5_c_1 val_main_call5_c_2 val_main_call5_c_3
  pointwise []
  refine fold_one _ ?_
  simp only [c5v5_apply he hy]
  exact (mask_eq ⟨_, Nat.lt_succ_of_le hb⟩).2

/-- The slope of the bin. -/
theorem v41_apply (he : Pos (E x0 x1 x2 x3 x4 x5 x6 r t)) (hy : yB x0 r t ≤ 1) :
    val_main_v41 (F := Ideal) x0 x1 x2 x3 x4 x5 x6 (ix2 r t)
      = ((wid (E x0 x1 x2 x3 x4 x5 x6 r t) (bin (E x0 x1 x2 x3 x4 x5 x6 r t) (yB x0 r t)) * 64
        / P (E x0 x1 x2 x3 x4 x5 x6 r t) 64 : ℝ) : EReal) := by
  have hb := bin_le he hy
  refine Eq.trans ?_ (v28_apply he ⟨_, Nat.lt_succ_of_le hb⟩)
  rw [← look_apply (A := 65536) (B := 8) (N := 64) gather_S65536x8x64_S65536x8x1x1_S65536x8x1_n_2_01_01_2_3_111_wf
    (val_main_v28 (F := Ideal) x0 x1 x2 x3 x4 x5 x6) _ r t _ (by omega) (by omega) (c5v5_apply he hy)]
  unfold val_main_v41 val_main_v40
  pointwise []
  rw [c5v12_apply he hy]
  rfl

/-- A small word, read as a number. -/
theorem sitofp_word {n : ℕ} (hn : n < 64) : FloatOps.sitofp (F := Ideal) .f32 (BitVec.ofNat 32 n) = (((n : ℕ) : ℝ) : EReal) := by
  have h : ∀ n : Fin 64, (BitVec.ofNat 32 n.val).toInt = (n.val : ℤ) := by decide +kernel
  show (((BitVec.ofNat 32 n).toInt : ℝ) : EReal) = _
  rw [h ⟨n, hn⟩]
  rfl

/-- The inverse map's value. -/
theorem v48_apply (he : Pos (E x0 x1 x2 x3 x4 x5 x6 r t)) (hy : yB x0 r t ≤ 1) :
    val_main_v48 (F := Ideal) x0 x1 x2 x3 x4 x5 x6 (ix2 r t) = valX (E x0 x1 x2 x3 x4 x5 x6 r t) (yB x0 r t) := by
  have hb := bin_le he hy
  rw [← ref_valX he hy, ← v39_apply he hy, ← v41_apply he hy]
  unfold val_main_v48 val_main_v47 val_main_v46 val_main_v45 val_main_v44 val_main_v43 val_main_v42 val_main_v36 val_main_cst_1 val_main_v1
  pointwise []
  rw [v35_apply he hy, ofBits_64, sitofp_word (by omega)]

/-- The inverse map's derivative. -/
theorem v50_apply (he : Pos (E x0 x1 x2 x3 x4 x5 x6 r t)) (hy : yB x0 r t ≤ 1) :
    val_main_v50 (F := Ideal) x0 x1 x2 x3 x4 x5 x6 (ix2 r t) = valJ (E x0 x1 x2 x3 x4 x5 x6 r t) (yB x0 r t) := by
  rw [← ref_valJ he, ← v41_apply he hy]
  unfold val_main_v50 val_main_v49 val_main_cst_2
  pointwise []

/-- The product of the row's last entry with the eight derivatives. -/
theorem v66_apply (he : ∀ t, Pos (E x0 x1 x2 x3 x4 x5 x6 r t)) (hy : ∀ t, yB x0 r t ≤ 1) :
    val_main_v66 (F := Ideal) x0 x1 x2 x3 x4 x5 x6 (ix2 r 0)
      = x0 (ix2 r 16) * ∏ t : Fin 8, valJ (E x0 x1 x2 x3 x4 x5 x6 r t) (yB x0 r t) := by
  simp only [← v50_apply (he _) (hy _)]
  rw [Fin.prod_univ_eight]
  unfold val_main_v66 val_main_v65 val_main_v64 val_main_v63 val_main_v62 val_main_v61 val_main_v60 val_main_v59 val_main_v58 val_main_v57 val_main_v56 val_main_v55 val_main_v54 val_main_v53 val_main_v52 val_main_v51 val_main_v4 val_main_v3 val_main_v2
  pointwise []

/-- The reference's result. -/
theorem v67_apply (he : ∀ t, Pos (E x0 x1 x2 x3 x4 x5 x6 r t)) (hy : ∀ t, yB x0 r t ≤ 1) (k : Fin 17) :
    val_main_v67 (F := Ideal) x0 x1 x2 x3 x4 x5 x6 (ix2 r k)
      = result (fun r k => x0 (ix2 r k)) (fun k i => x1 (ix2 k i)) (fun i => x2 (ix1 i)) (fun k i => x3 (ix2 k i))
        (fun i => x4 (ix1 i)) (fun k i => x5 (ix2 k i)) (fun i => x6 (ix1 i)) r k := by
  unfold val_main_v67 val_main_v0 result outRow
  pointwise []
  by_cases h : k.val < 8
  · rw [dif_pos h, dif_pos h]
  · rw [dif_neg h, dif_neg h]
    by_cases h' : k.val - 8 < 8
    · rw [dif_pos h', dif_pos h', v48_apply (he _) (hy _)]
    · rw [dif_neg h', dif_neg h', ← v66_apply he hy]
      exact congrArg _ (congrArg (ix2 r) (Subsingleton.elim (α := Fin 1) _ _))

end Cert.ReferenceIdeal.Rows
-- ==== Proof.Pre.lean ====
module

public import proofs.«01_k».proof.Proof.Spec
public import proofs.«01_k».proof.Proof.Gen.Pre_in_domain
public import Idealize.ShloMosaic.Lib.Pointwise
public import Idealize.ShloMosaic.Lib.ReduceAll

@[expose] public section

set_option maxRecDepth 16384

noncomputable section

/-! # What the precondition says

Where the precondition's one bit is set, the first eight columns of the input and all weights and offsets are real numbers
and the next eight columns are at most 1. -/

namespace Cert.Pre_in_domain.Decode

open Cert.Pre_in_domain Idealize.ShloMosaic Spline

/-- Two bits whose conjunction is set are both set. -/
theorem and_one : ∀ {a b : BitVec 1}, IntOp.andi a b = 1#1 → a = 1#1 ∧ b = 1#1 := by decide

instance : Subsingleton S_.Idx := ⟨fun _ _ => funext fun a => a.elim0⟩

/-- A value whose magnitude is below infinity is a real number. -/
theorem re_of_bit {s : Shape} (x : FVec Ideal s .f32) (hb : S_.BroadcastsInDim s (![] : Fin 0 → Fin s.rank)) (i : s.Idx)
    (h : cmpf .olt (Host.absf x) (broadcastInDim s ![] hb (constant (F := Ideal) S_ .f32 0x7F800000#32)) i = 1#1) :
    Re (x i) := by
  have h' : BitVec.ofBool (decide (max (x i : EReal) (-(x i)) < Ideal.ofBits .f32 0x7F800000#32)) = 1#1 := h
  rw [show Ideal.ofBits .f32 0x7F800000#32 = ⊤ by simp [Ideal.ofBits, Ideal.ieee]] at h'
  have h2 : max (x i : EReal) (-(x i)) < ⊤ := by
    by_contra hc
    rw [decide_eq_false hc] at h'
    exact absurd h' (by decide)
  generalize (x i : EReal) = z at h2 ⊢
  induction z using EReal.rec with
  | bot => simp at h2
  | coe r => exact ⟨r, rfl⟩
  | top => simp at h2

/-- A value not above 1, from its comparison's bit. -/
theorem le_of_bit {s : Shape} (x : FVec Ideal s .f32) (hb : S_.BroadcastsInDim s (![] : Fin 0 → Fin s.rank)) (i : s.Idx)
    (h : cmpf .ole x (broadcastInDim s ![] hb (constant (F := Ideal) S_ .f32 0x3F800000#32)) i = 1#1) :
    (x i : EReal) ≤ 1 := by
  have h' : BitVec.ofBool (decide ((x i : EReal) ≤ Ideal.ofBits .f32 0x3F800000#32)) = 1#1 := h
  rw [show Ideal.ofBits .f32 0x3F800000#32 = 1 by pointwise []] at h'
  by_contra hc
  rw [decide_eq_false hc] at h'
  exact absurd h' (by decide)

/-- The precondition, row by row. -/
theorem good (x0 : FVec Ideal S65536x17 .f32) (x1 : FVec Ideal S8x64 .f32) (x2 : FVec Ideal S64 .f32)
    (x3 : FVec Ideal S64x64 .f32) (x4 : FVec Ideal S64 .f32) (x5 : FVec Ideal S64x512 .f32) (x6 : FVec Ideal S512 .f32)
    (h : fn (F := Ideal) x0 x1 x2 x3 x4 x5 x6 = fun _ => 1#1) (r : Fin 65536) :
    Good (fun k => x0 (ix2 r k)) (fun k i => x1 (ix2 k i)) (fun i => x2 (ix1 i)) (fun k i => x3 (ix2 k i))
      (fun i => x4 (ix1 i)) (fun k i => x5 (ix2 k i)) (fun i => x6 (ix1 i)) := by
  have h0 := congrFun h ix0
  unfold fn fn_part1 fn_part2 at h0
  obtain ⟨h0, h6⟩ := and_one h0
  obtain ⟨h0, h5⟩ := and_one h0
  obtain ⟨h0, h4⟩ := and_one h0
  obtain ⟨h0, h3⟩ := and_one h0
  obtain ⟨h0, h2⟩ := and_one h0
  obtain ⟨h0, h1⟩ := and_one h0
  obtain ⟨hA, hB⟩ := and_one h0
  refine ⟨fun k => ?_, fun k => ?_, fun k i => ?_, fun i => ?_, fun k i => ?_, fun i => ?_, fun k i => ?_, fun i => ?_⟩
  · have := re_of_bit _ _ _ (Host.reduce_andi_all _ _ _ _ _ hA (ix2 r k))
    convert this using 1
    pointwise []
  · have := le_of_bit _ _ _ (Host.reduce_andi_all _ _ _ _ _ hB (ix2 r k))
    convert this using 1
    pointwise []
  · exact re_of_bit _ _ _ (Host.reduce_andi_all _ _ _ _ _ h1 (ix2 k i))
  · exact re_of_bit _ _ _ (Host.reduce_andi_all _ _ _ _ _ h2 (ix1 i))
  · exact re_of_bit _ _ _ (Host.reduce_andi_all _ _ _ _ _ h3 (ix2 k i))
  · exact re_of_bit _ _ _ (Host.reduce_andi_all _ _ _ _ _ h4 (ix1 i))
  · exact re_of_bit _ _ _ (Host.reduce_andi_all _ _ _ _ _ h5 (ix2 k i))
  · exact re_of_bit _ _ _ (Host.reduce_andi_all _ _ _ _ _ h6 (ix1 i))

end Cert.Pre_in_domain.Decode
-- ==== Proof.Final.lean ====
module

public import proofs.«01_k».proof.Proof.Run
public import proofs.«01_k».proof.Proof.Ref
public import proofs.«01_k».proof.Proof.Pre
public import proofs.«01_k».proof.Defs

@[expose] public section

set_option maxRecDepth 16384

noncomputable section

/-! # Both programs end with the same array -/

namespace Cert.ReferenceIdeal.Rows

open Cert.ReferenceIdeal Cert.ReferenceIdeal.Gen Cert.ReferenceIdeal.Read Idealize.ShloMosaic Idealize.SL.Sem Spline

/-- The reference's whole result, where every row is in the domain. -/
theorem v67_eq (x0 : Vec Ideal S65536x17 .f32) (x1 : Vec Ideal S8x64 .f32) (x2 : Vec Ideal S64 .f32) (x3 : Vec Ideal S64x64 .f32)
    (x4 : Vec Ideal S64 .f32) (x5 : Vec Ideal S64x512 .f32) (x6 : Vec Ideal S512 .f32)
    (g : ∀ r : Fin 65536, Good (fun k => x0 (ix2 r k)) (fun k i => x1 (ix2 k i)) (fun i => x2 (ix1 i)) (fun k i => x3 (ix2 k i))
      (fun i => x4 (ix1 i)) (fun k i => x5 (ix2 k i)) (fun i => x6 (ix1 i))) :
    val_main_v67 (F := Ideal) x0 x1 x2 x3 x4 x5 x6 = fun i =>
      result (fun r k => x0 (ix2 r k)) (fun k i => x1 (ix2 k i)) (fun i => x2 (ix1 i)) (fun k i => x3 (ix2 k i))
        (fun i => x4 (ix1 i)) (fun k i => x5 (ix2 k i)) (fun i => x6 (ix1 i)) (i 0) (i 1) := by
  funext i
  obtain ⟨r, k, rfl⟩ : ∃ (r : Fin 65536) (k : Fin 17), i = ix2 r k :=
    ⟨i 0, i 1, by funext a; match a with | ⟨0, _⟩ => rfl | ⟨1, _⟩ => rfl⟩
  exact v67_apply (g r).pos (g r).rowLe k

/-- The same, for arguments that are given arrays. -/
theorem v67_of {a0 x0 : Vec Ideal S65536x17 .f32} {a1 x1 : Vec Ideal S8x64 .f32} {a2 x2 : Vec Ideal S64 .f32}
    {a3 x3 : Vec Ideal S64x64 .f32} {a4 x4 : Vec Ideal S64 .f32} {a5 x5 : Vec Ideal S64x512 .f32} {a6 x6 : Vec Ideal S512 .f32}
    (h0 : a0 = x0) (h1 : a1 = x1) (h2 : a2 = x2) (h3 : a3 = x3) (h4 : a4 = x4) (h5 : a5 = x5) (h6 : a6 = x6)
    (g : ∀ r : Fin 65536, Good (fun k => x0 (ix2 r k)) (fun k i => x1 (ix2 k i)) (fun i => x2 (ix1 i)) (fun k i => x3 (ix2 k i))
      (fun i => x4 (ix1 i)) (fun k i => x5 (ix2 k i)) (fun i => x6 (ix1 i))) :
    val_main_v67 (F := Ideal) a0 a1 a2 a3 a4 a5 a6 = fun i =>
      result (fun r k => x0 (ix2 r k)) (fun k i => x1 (ix2 k i)) (fun i => x2 (ix1 i)) (fun k i => x3 (ix2 k i))
        (fun i => x4 (ix1 i)) (fun k i => x5 (ix2 k i)) (fun i => x6 (ix1 i)) (i 0) (i 1) := by
  rw [h0, h1, h2, h3, h4, h5, h6, v67_eq x0 x1 x2 x3 x4 x5 x6 g]

end Cert.ReferenceIdeal.Rows
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_in_domain
public import proofs.«01_k».proof.Proof.Gen.ReferenceIdeal.Run
public import proofs.«01_k».proof.Proof.Gen.ReferenceIdeal.Read
public import proofs.«01_k».proof.Proof.Final
public import Idealize.ShloMosaic.Lib.Claim
public import Idealize.ShloMosaic.Rules
public import Idealize.ShloMosaic.Adequacy
public import Idealize.ShloMosaic.Init

@[expose] public section

noncomputable section

namespace Cert.Proof

open Idealize.ShloMosaic Idealize.SL.Sem Spline

/-- The reference's frame: its run leaves the arguments as they were, and it has no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread _ Cert.ReferenceIdeal.τ).loc Cert.ReferenceIdeal.main_arg0) = m ((c.tc : Thread _ Cert.ReferenceIdeal.τ).loc Cert.ReferenceIdeal.main_arg0)
        ∧ r.2.mem ((c.tc : Thread _ Cert.ReferenceIdeal.τ).loc Cert.ReferenceIdeal.main_arg1) = m ((c.tc : Thread _ Cert.ReferenceIdeal.τ).loc Cert.ReferenceIdeal.main_arg1)
        ∧ r.2.mem ((c.tc : Thread _ Cert.ReferenceIdeal.τ).loc Cert.ReferenceIdeal.main_arg2) = m ((c.tc : Thread _ Cert.ReferenceIdeal.τ).loc Cert.ReferenceIdeal.main_arg2)
        ∧ r.2.mem ((c.tc : Thread _ Cert.ReferenceIdeal.τ).loc Cert.ReferenceIdeal.main_arg3) = m ((c.tc : Thread _ Cert.ReferenceIdeal.τ).loc Cert.ReferenceIdeal.main_arg3)
        ∧ r.2.mem ((c.tc : Thread _ Cert.ReferenceIdeal.τ).loc Cert.ReferenceIdeal.main_arg4) = m ((c.tc : Thread _ Cert.ReferenceIdeal.τ).loc Cert.ReferenceIdeal.main_arg4)
        ∧ r.2.mem ((c.tc : Thread _ Cert.ReferenceIdeal.τ).loc Cert.ReferenceIdeal.main_arg5) = m ((c.tc : Thread _ Cert.ReferenceIdeal.τ).loc Cert.ReferenceIdeal.main_arg5)
        ∧ r.2.mem ((c.tc : Thread _ Cert.ReferenceIdeal.τ).loc Cert.ReferenceIdeal.main_arg6) = m ((c.tc : Thread _ Cert.ReferenceIdeal.τ).loc Cert.ReferenceIdeal.main_arg6))
        ∧ r.2.sem = fun _ => 0) :=
  θ_run_mono (Cert.ReferenceIdeal.Value.run m g) fun r h =>
    ⟨fun c => (h c).2, sem_eq_zero_of_no_sems (by decide) r.2⟩

/-- The kernel's two named constants: the reciprocal of `log 2`, and the scan's neutral value for a minimum. -/
theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "big" .f32 0x7F61B1E6#32 ⊤ rfl⟩

/-- What the kernel leaves in its result array on device `c`. -/
def out (m : (ℓ : Loc Cert.KernelIdeal.nD Cert.KernelIdeal.τ Cert.KernelIdeal.sig) → Buf (Elt Ideal) ℓ) (c : Dev Cert.KernelIdeal.nD) :
    Vec Ideal Cert.KernelIdeal.S65536x17 .f32 := fun i =>
  result (Cert.KernelIdeal.Head.row m c) (Cert.KernelIdeal.Head.w1 m c) (Cert.KernelIdeal.Head.c1 m c) (Cert.KernelIdeal.Head.w2 m c)
    (Cert.KernelIdeal.Head.c2 m c) (Cert.KernelIdeal.Head.w3 m c) (Cert.KernelIdeal.Head.c3 m c) (i 0) (i 1)

/-- On every input of the domain both programs end with the inverse map's values and the products of its derivatives. -/
theorem algebraic : Cert.algebraic_KernelIdeal_ReferenceIdeal_pre_in_domain := by
  intro m g m' g' hpre hagree
  have hg : ∀ c, Cert.KernelIdeal.Head.AllGood m c := fun c r => Cert.Pre_in_domain.Decode.good _ _ _ _ _ _ _ (hpre c) r
  refine ⟨out m, ?_, ?_⟩
  · exact θ_run_mono (θ_run_and (Cert.KernelIdeal.Head.run m g hg) (Cert.KernelIdeal.Gen.frame m g)) fun r hr c =>
      ⟨hr.1 c, hr.2.1 c⟩
  · refine θ_run_mono (Cert.ReferenceIdeal.Value.run m' g') ?_
    intro r hr c
    refine ⟨(hr c).1.trans ((Cert.ReferenceIdeal.Read.val_main_v67_eq (StableHlo.launchContents m' c)).trans ?_), (hr c).2⟩
    obtain ⟨h0, h1, h2, h3, h4, h5, h6⟩ := hagree c
    exact Cert.ReferenceIdeal.Rows.v67_of h0 h1 h2 h3 h4 h5 h6 (hg c)

theorem claim : Cert.Claim := ⟨Cert.Kernel.Gen.facts, Cert.KernelIdeal.Gen.facts, Cert.ReferenceIdeal.Gen.facts, Cert.Pre_in_domain.Gen.facts,
  fun m g _ => Cert.Kernel.Gen.frame m g, fun m g _ => Cert.KernelIdeal.Gen.frame m g, fun m g _ => Cert.KernelIdeal.Gen.frame m g,
  fun m g _ => frame_reference m g, fun m g _ => frame_reference m g, preserves, algebraic⟩

end Cert.Proof

end
